-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread_KernelIdeal [hPre_spread_KernelIdeal : Cert.Pre_spread_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_spread_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread_ReferenceIdeal [hPre_spread_ReferenceIdeal : Cert.Pre_spread_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_spread_KernelIdeal [hKernelIdeal : Cert.KernelIdeal.Facts] [hPre_spread_KernelIdeal : Cert.Pre_spread_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_spread_ReferenceIdeal [hReferenceIdeal : Cert.ReferenceIdeal.Facts] [hPre_spread_ReferenceIdeal : Cert.Pre_spread_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_spread_KernelIdeal [hKernelIdeal : Cert.KernelIdeal.Facts] [hReferenceIdeal : Cert.ReferenceIdeal.Facts] [hPre_spread_KernelIdeal : Cert.Pre_spread_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 8192]⟩ (Layout.meshBlock [2, 2] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_spread_KernelIdeal : Cert.Pre_spread_KernelIdeal.Facts) (hPre_spread_ReferenceIdeal : Cert.Pre_spread_ReferenceIdeal.Facts),
    quiescent_Kernel (hKernel := hKernel)
    ∧ quiescent_KernelIdeal (hKernelIdeal := hKernelIdeal)
    ∧ quiescent_KernelIdeal_pre_spread_KernelIdeal (hKernelIdeal := hKernelIdeal) (hPre_spread_KernelIdeal := hPre_spread_KernelIdeal)
    ∧ quiescent_ReferenceIdeal (hReferenceIdeal := hReferenceIdeal)
    ∧ quiescent_ReferenceIdeal_pre_spread_ReferenceIdeal (hReferenceIdeal := hReferenceIdeal) (hPre_spread_ReferenceIdeal := hPre_spread_ReferenceIdeal)
    ∧ preserves_Kernel_KernelIdeal
    ∧ algebraic_KernelIdeal_ReferenceIdeal_pre_spread_KernelIdeal (hKernelIdeal := hKernelIdeal) (hReferenceIdeal := hReferenceIdeal) (hPre_spread_KernelIdeal := hPre_spread_KernelIdeal)
-- ==== Pre_spread_KernelIdeal.lean ====
abbrev S512x4096 : Shape := ⟨2, ![512, 4096]⟩
abbrev S512x16 : Shape := ⟨2, ![512, 16]⟩
abbrev S512x15 : Shape := ⟨2, ![512, 15]⟩
abbrev S_ : Shape := ⟨0, ![]⟩
abbrev S512x1 : Shape := ⟨2, ![512, 1]⟩
abbrev S512x32x128 : Shape := ⟨3, ![512, 32, 128]⟩
abbrev S512x128 : Shape := ⟨2, ![512, 128]⟩

class Facts : Prop where
  slices_S512x4096_S512x16_0_0 : S512x4096.Slices ![0, 0] S512x16
  slices_S512x16_S512x15_0_0 : S512x16.Slices ![0, 0] S512x15
  slices_S512x16_S512x15_0_1 : S512x16.Slices ![0, 1] S512x15
  bcast_S_S512x15 : S_.BroadcastsInDim S512x15 (![] : Fin 0 → Fin S512x15.rank)
  slices_S512x16_S512x1_0_15 : S512x16.Slices ![0, 15] S512x1
  bcast_S512x1_S512x4096_0_1 : S512x1.BroadcastsInDim S512x4096 (![0, 1] : Fin 2 → Fin S512x4096.rank)
  bcast_S_S512x4096 : S_.BroadcastsInDim S512x4096 (![] : Fin 0 → Fin S512x4096.rank)
  shapeCasts_S512x4096_S512x32x128 : S512x4096.ShapeCasts S512x32x128
  natLt_1_32 : 1 < 32
  reducesTo_S512x32x128_S512x128_d1 : S512x32x128.ReducesTo [1] S512x128
  h_S_ : 0 < S_.numel
  reducesTo_S512x15_S_d0_1 : S512x15.ReducesTo [0, 1] S_
  bcast_S_S512x128 : S_.BroadcastsInDim S512x128 (![] : Fin 0 → Fin S512x128.rank)
  reducesTo_S512x128_S_d0_1 : S512x128.ReducesTo [0, 1] S_

variable [Facts]

variable {F : FTy → Type} [FloatOps F]
def comparator_f32_d1 : F .f32 → F .f32 → BitVec 1 :=
  fun l r =>
    let cst_4 := FloatOps.ofBits .f32 0x00000000#32
    let v25 := FloatOps.cmpf .oeq l cst_4
    let cst_5 := FloatOps.ofBits .f32 0x00000000#32
    let v26 := Scalar.select v25 cst_5 l
    let v27 := FloatOps.cmpf .une l l
    let cst_6 := FloatOps.ofBits .f32 0x7FC00000#32
    let v28 := Scalar.select v27 cst_6 v26
    let cst_7 := FloatOps.ofBits .f32 0x00000000#32
    let v29 := FloatOps.cmpf .oeq r cst_7
    let cst_8 := FloatOps.ofBits .f32 0x00000000#32
    let v30 := Scalar.select v29 cst_8 r
    let v31 := FloatOps.cmpf .une r r
    let cst_9 := FloatOps.ofBits .f32 0x7FC00000#32
    let v32 := Scalar.select v31 cst_9 v30
    let v33 := FloatOps.cmpfTotal .lt v28 v32
    v33

def fn_part1 {F : FTy → Type} [FloatOps F] (main_v10 : IVec S512x15 1) (main_v19 : IVec S512x128 32) (main_c_1 : IVec S_ 1) : IVec S_ 1 :=
  let main_v20 : IVec S_ 1 := (fun x v => Host.reduce IntOp.andi x v reducesTo_S512x15_S_d0_1 h_S_) main_v10 main_c_1
  let main_c_2 : IVec S_ 32 := constantI S_ 32 3#32
  let main_v21 : IVec S512x128 32 := broadcastInDim S512x128 ![] bcast_S_S512x128 main_c_2
  let main_v22 : IVec S512x128 1 := cmpi .sle main_v19 main_v21
  let main_c_3 : IVec S_ 1 := constantI S_ 1 1#1
  let main_v23 : IVec S_ 1 := (fun x v => Host.reduce IntOp.andi x v reducesTo_S512x128_S_d0_1 h_S_) main_v22 main_c_3
  let main_v24 : IVec S_ 1 := andi main_v20 main_v23
  main_v24

def fn {F : FTy → Type} [FloatOps F] (main_arg0 : FVec F S512x4096 .f32) : IVec S_ 1 :=
  let main_v0 : FVec F S512x4096 .f32 := Host.negf main_arg0
  let main_v1 : FVec F S512x4096 .f32 := (fun x => Host.sort S512x4096 1 comparator_f32_d1 x) main_v0
  let main_v2 : FVec F S512x16 .f32 := (extractStridedSlice S512x16 ![0, 0] · slices_S512x4096_S512x16_0_0) main_v1
  let main_v3 : FVec F S512x16 .f32 := Host.negf main_v2
  let main_v4 : FVec F S512x15 .f32 := (extractStridedSlice S512x15 ![0, 0] · slices_S512x16_S512x15_0_0) main_v3
  let main_v5 : FVec F S512x15 .f32 := (extractStridedSlice S512x15 ![0, 1] · slices_S512x16_S512x15_0_1) main_v3
  let main_v6 : IVec S512x15 1 := cmpf .ogt main_v4 main_v5
  let main_v7 : FVec F S512x15 .f32 := (extractStridedSlice S512x15 ![0, 0] · slices_S512x16_S512x15_0_0) main_v3
  let main_cst : FVec F S_ .f32 := constant S_ .f32 0xFF800000#32
  let main_v8 : FVec F S512x15 .f32 := broadcastInDim S512x15 ![] bcast_S_S512x15 main_cst
  let main_v9 : IVec S512x15 1 := cmpf .oeq main_v7 main_v8
  let main_v10 : IVec S512x15 1 := ori main_v6 main_v9
  let main_v11 : FVec F S512x1 .f32 := (extractStridedSlice S512x1 ![0, 15] · slices_S512x16_S512x1_0_15) main_v3
  let main_v12 : FVec F S512x4096 .f32 := broadcastInDim S512x4096 ![0, 1] bcast_S512x1_S512x4096_0_1 main_v11
  let main_v13 : IVec S512x4096 1 := cmpf .oge main_arg0 main_v12
  let main_cst_0 : FVec F S_ .f32 := constant S_ .f32 0xFF800000#32
  let main_v14 : FVec F S512x4096 .f32 := broadcastInDim S512x4096 ![] bcast_S_S512x4096 main_cst_0
  let main_v15 : IVec S512x4096 1 := cmpf .ogt main_arg0 main_v14
  let main_v16 : IVec S512x4096 1 := andi main_v13 main_v15
  let main_v17 : IVec S512x32x128 1 := shapeCast S512x32x128 main_v16 shapeCasts_S512x4096_S512x32x128
  let main_v18 : IVec S512x32x128 32 := (extui 32 · natLt_1_32) main_v17
  let main_c : IVec S_ 32 := constantI S_ 32 0#32
  let main_v19 : IVec S512x128 32 := (fun x v => Host.reduce IntOp.addi x v reducesTo_S512x32x128_S512x128_d1 h_S_) main_v18 main_c
  let main_c_1 : IVec S_ 1 := constantI S_ 1 1#1
  fn_part1 (F := F) main_v10 main_v19 main_c_1
-- ==== Pre_spread_ReferenceIdeal.lean ====
abbrev S512x8192 : Shape := ⟨2, ![512, 8192]⟩
abbrev S512x16 : Shape := ⟨2, ![512, 16]⟩
abbrev S512x15 : Shape := ⟨2, ![512, 15]⟩
abbrev S_ : Shape := ⟨0, ![]⟩
abbrev S512x1 : Shape := ⟨2, ![512, 1]⟩
abbrev S512x64x128 : Shape := ⟨3, ![512, 64, 128]⟩
abbrev S512x128 : Shape := ⟨2, ![512, 128]⟩

class Facts : Prop where
  slices_S512x8192_S512x16_0_0 : S512x8192.Slices ![0, 0] S512x16
  slices_S512x16_S512x15_0_0 : S512x16.Slices ![0, 0] S512x15
  slices_S512x16_S512x15_0_1 : S512x16.Slices ![0, 1] S512x15
  bcast_S_S512x15 : S_.BroadcastsInDim S512x15 (![] : Fin 0 → Fin S512x15.rank)
  slices_S512x16_S512x1_0_15 : S512x16.Slices ![0, 15] S512x1
  bcast_S512x1_S512x8192_0_1 : S512x1.BroadcastsInDim S512x8192 (![0, 1] : Fin 2 → Fin S512x8192.rank)
  bcast_S_S512x8192 : S_.BroadcastsInDim S512x8192 (![] : Fin 0 → Fin S512x8192.rank)
  shapeCasts_S512x8192_S512x64x128 : S512x8192.ShapeCasts S512x64x128
  natLt_1_32 : 1 < 32
  reducesTo_S512x64x128_S512x128_d1 : S512x64x128.ReducesTo [1] S512x128
  h_S_ : 0 < S_.numel
  reducesTo_S512x15_S_d0_1 : S512x15.ReducesTo [0, 1] S_
  bcast_S_S512x128 : S_.BroadcastsInDim S512x128 (![] : Fin 0 → Fin S512x128.rank)
  reducesTo_S512x128_S_d0_1 : S512x128.ReducesTo [0, 1] S_

variable [Facts]

variable {F : FTy → Type} [FloatOps F]
def comparator_f32_d1 : F .f32 → F .f32 → BitVec 1 :=
  fun l r =>
    let cst_4 := FloatOps.ofBits .f32 0x00000000#32
    let v25 := FloatOps.cmpf .oeq l cst_4
    let cst_5 := FloatOps.ofBits .f32 0x00000000#32
    let v26 := Scalar.select v25 cst_5 l
    let v27 := FloatOps.cmpf .une l l
    let cst_6 := FloatOps.ofBits .f32 0x7FC00000#32
    let v28 := Scalar.select v27 cst_6 v26
    let cst_7 := FloatOps.ofBits .f32 0x00000000#32
    let v29 := FloatOps.cmpf .oeq r cst_7
    let cst_8 := FloatOps.ofBits .f32 0x00000000#32
    let v30 := Scalar.select v29 cst_8 r
    let v31 := FloatOps.cmpf .une r r
    let cst_9 := FloatOps.ofBits .f32 0x7FC00000#32
    let v32 := Scalar.select v31 cst_9 v30
    let v33 := FloatOps.cmpfTotal .lt v28 v32
    v33

def fn_part1 {F : FTy → Type} [FloatOps F] (main_v10 : IVec S512x15 1) (main_v19 : IVec S512x128 32) (main_c_1 : IVec S_ 1) : IVec S_ 1 :=
  let main_v20 : IVec S_ 1 := (fun x v => Host.reduce IntOp.andi x v reducesTo_S512x15_S_d0_1 h_S_) main_v10 main_c_1
  let main_c_2 : IVec S_ 32 := constantI S_ 32 3#32
  let main_v21 : IVec S512x128 32 := broadcastInDim S512x128 ![] bcast_S_S512x128 main_c_2
  let main_v22 : IVec S512x128 1 := cmpi .sle main_v19 main_v21
  let main_c_3 : IVec S_ 1 := constantI S_ 1 1#1
  let main_v23 : IVec S_ 1 := (fun x v => Host.reduce IntOp.andi x v reducesTo_S512x128_S_d0_1 h_S_) main_v22 main_c_3
  let main_v24 : IVec S_ 1 := andi main_v20 main_v23
  main_v24

def fn {F : FTy → Type} [FloatOps F] (main_arg0 : FVec F S512x8192 .f32) : IVec S_ 1 :=
  let main_v0 : FVec F S512x8192 .f32 := Host.negf main_arg0
  let main_v1 : FVec F S512x8192 .f32 := (fun x => Host.sort S512x8192 1 comparator_f32_d1 x) main_v0
  let main_v2 : FVec F S512x16 .f32 := (extractStridedSlice S512x16 ![0, 0] · slices_S512x8192_S512x16_0_0) main_v1
  let main_v3 : FVec F S512x16 .f32 := Host.negf main_v2
  let main_v4 : FVec F S512x15 .f32 := (extractStridedSlice S512x15 ![0, 0] · slices_S512x16_S512x15_0_0) main_v3
  let main_v5 : FVec F S512x15 .f32 := (extractStridedSlice S512x15 ![0, 1] · slices_S512x16_S512x15_0_1) main_v3
  let main_v6 : IVec S512x15 1 := cmpf .ogt main_v4 main_v5
  let main_v7 : FVec F S512x15 .f32 := (extractStridedSlice S512x15 ![0, 0] · slices_S512x16_S512x15_0_0) main_v3
  let main_cst : FVec F S_ .f32 := constant S_ .f32 0xFF800000#32
  let main_v8 : FVec F S512x15 .f32 := broadcastInDim S512x15 ![] bcast_S_S512x15 main_cst
  let main_v9 : IVec S512x15 1 := cmpf .oeq main_v7 main_v8
  let main_v10 : IVec S512x15 1 := ori main_v6 main_v9
  let main_v11 : FVec F S512x1 .f32 := (extractStridedSlice S512x1 ![0, 15] · slices_S512x16_S512x1_0_15) main_v3
  let main_v12 : FVec F S512x8192 .f32 := broadcastInDim S512x8192 ![0, 1] bcast_S512x1_S512x8192_0_1 main_v11
  let main_v13 : IVec S512x8192 1 := cmpf .oge main_arg0 main_v12
  let main_cst_0 : FVec F S_ .f32 := constant S_ .f32 0xFF800000#32
  let main_v14 : FVec F S512x8192 .f32 := broadcastInDim S512x8192 ![] bcast_S_S512x8192 main_cst_0
  let main_v15 : IVec S512x8192 1 := cmpf .ogt main_arg0 main_v14
  let main_v16 : IVec S512x8192 1 := andi main_v13 main_v15
  let main_v17 : IVec S512x64x128 1 := shapeCast S512x64x128 main_v16 shapeCasts_S512x8192_S512x64x128
  let main_v18 : IVec S512x64x128 32 := (extui 32 · natLt_1_32) main_v17
  let main_c : IVec S_ 32 := constantI S_ 32 0#32
  let main_v19 : IVec S512x128 32 := (fun x v => Host.reduce IntOp.addi x v reducesTo_S512x64x128_S512x128_d1 h_S_) main_v18 main_c
  let main_c_1 : IVec S_ 1 := constantI S_ 1 1#1
  fn_part1 (F := F) main_v10 main_v19 main_c_1
-- ==== Kernel.lean ====
abbrev S512x4096 : Shape := ⟨2, ![512, 4096]⟩
abbrev S512x16 : Shape := ⟨2, ![512, 16]⟩
abbrev S_ : Shape := ⟨0, ![]⟩
abbrev S512x32x128 : Shape := ⟨3, ![512, 32, 128]⟩
abbrev S512x128 : Shape := ⟨2, ![512, 128]⟩
abbrev S512x1x128 : Shape := ⟨3, ![512, 1, 128]⟩
abbrev S512x384 : Shape := ⟨2, ![512, 384]⟩
abbrev S512 : Shape := ⟨1, ![512]⟩
abbrev S512x1 : Shape := ⟨2, ![512, 1]⟩
abbrev S512x1x2x8 : Shape := ⟨4, ![512, 1, 2, 8]⟩
abbrev S512x1x1x8 : Shape := ⟨4, ![512, 1, 1, 8]⟩
abbrev S512x1x8 : Shape := ⟨3, ![512, 1, 8]⟩
abbrev S512x2x2x4 : Shape := ⟨4, ![512, 2, 2, 4]⟩
abbrev S512x2x1x4 : Shape := ⟨4, ![512, 2, 1, 4]⟩
abbrev S512x2x4 : Shape := ⟨3, ![512, 2, 4]⟩
abbrev S512x4x2x2 : Shape := ⟨4, ![512, 4, 2, 2]⟩
abbrev S512x4x1x2 : Shape := ⟨4, ![512, 4, 1, 2]⟩
abbrev S512x4x2 : Shape := ⟨3, ![512, 4, 2]⟩
abbrev S512x8x2x1 : Shape := ⟨4, ![512, 8, 2, 1]⟩
abbrev S512x8x1x1 : Shape := ⟨4, ![512, 8, 1, 1]⟩
abbrev S512x8x1 : Shape := ⟨3, ![512, 8, 1]⟩

abbrev nBuf : Space → Nat
  | .hbm => 2
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v129 : BitVec 32 := Scalar.muli v6 c2_i32_47
  let v130 : BitVec 32 := Scalar.addi c0_i32_48 v129
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v131 : BitVec 32 := Scalar.muli v5 c1_i32_49
  let v132 : BitVec 32 := Scalar.addi v130 v131
  v132.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .i32⟩
  | .hbm, ⟨3, _⟩ => ⟨S512x8192, .f32⟩
  | .hbm, ⟨4, _⟩ => ⟨S512x8192, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Protocol.lean ====
/-
# The exchange between two devices: who signals, who waits, what each landing hands over

The four devices form two pairs; `peer c` is the device with the other half of the columns. Every device does, in order:

1. signal its peer's barrier semaphore by one, then wait for one on its own;
2. compute the 16 candidates of its block, and store them descending in one buffer and ascending in another;
3. copy the ascending buffer into its peer's landing buffer, paying its own send semaphore and its peer's receive semaphore;
4. wait on its send semaphore, then on its receive semaphore;
5. merge its own descending list with the ascending list that landed, and store the result.

Every semaphore is paid once and waited for once, so each has one round with one payment:

* the barrier semaphore of `c`, one unit, paid by `peer c`, hands over `peer c`'s landing buffer (contents arbitrary) and
  the knowledge that `peer c`'s receive semaphore is still in its first round;
* the send semaphore of `c`, the copy's credit, paid by `c`'s own copy, gives `c` its ascending buffer back unchanged;
* the receive semaphore of `c`, the copy's credit, paid by `peer c`'s copy, hands over `c`'s landing buffer holding
  `peer c`'s ascending list.

A device waits on its barrier semaphore while it still owes its peer's receive semaphore, so barrier cells lie at level 1
and receive cells at level 2.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's, and the exchange's (every cell's one payment is named by `()`). -/
abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The pairs -/

set_option backward.proofsInPublic true in
/-- The device with the other half of the columns. -/
def peer (c : Dev nD) : Dev nD := ⟨c.val % 2 + 2 - 2 * (c.val / 2), by have := c.isLt; simp only [nD] at *; omega⟩

theorem peer_peer (c : Dev nD) : peer (peer c) = c := by revert c; decide
def peers : Dev nD ≃ Dev nD := ⟨peer, peer, peer_peer, peer_peer⟩

/-- The device number the kernel computes for its signal, and the one for its copy, are the peer's. -/
theorem signalled_eq (c : Dev nD) : (⟨k0_dev1 c, k0_dev1_lt c⟩ : Dev nD) = peer c := Fin.ext (k0_dev1_eq c)
theorem copied_eq (c : Dev nD) : (⟨k0_dev2 c, k0_dev2_lt c⟩ : Dev nD) = peer c := Fin.ext (k0_dev2_eq c)

/-! ## Buffers and semaphores -/

/-- The device's block, the result, and the three buffers of the kernel: own list, list to send, list received. -/
abbrev blkM : Memref sig .tc .vmem S512x4096 .f32 := Memref.whole cc0_stg0_0
abbrev outM : Memref sig .tc .vmem S512x16 .f32 := Memref.whole cc0_stg1_0
abbrev ownM : Memref sig .tc .vmem S512x16 .f32 := Memref.whole cc0_scratch0
abbrev ascM : Memref sig .tc .vmem S512x16 .f32 := Memref.whole cc0_scratch1
abbrev remM : Memref sig .tc .vmem S512x16 .f32 := Memref.whole cc0_scratch2

abbrev barS : Sem sig := (SemArray.scalar (sig.barrier 0 rfl) : Sems sig S_).sem
abbrev sendS : DmaSems sig S_ := cc0_scratch3
abbrev recvS : DmaSems sig S_ := cc0_scratch4

/-- The three semaphores of the exchange, and one of them on one device. -/
abbrev xsem : Fin 3 → SemLoc sig := fun | 0 => .reg barS | 1 => .dma sendS.sem | 2 => .dma recvS.sem
abbrev cell (k : Fin 3) (c : Dev nD) : GSem nD τ sig := ((c : Thread nD τ), xsem k)

theorem xsem_inj : Function.Injective xsem := by decide

theorem cell_eq_iff {k k' : Fin 3} {c c' : Dev nD} : cell k c = cell k' c' ↔ k = k' ∧ c = c' :=
  ⟨fun h => ⟨xsem_inj (congrArg Prod.snd h), Fin.ext (congrArg (fun g : GSem nD τ sig => g.1.1.val) h)⟩,
    fun h => by rw [h.1, h.2]⟩

/-- The credit of one copy of a list. -/
abbrev N : ℕ := (remM : Memref sig .tc .vmem S512x16 .f32).view.dmaCredit
theorem N_pos : 0 < N := View.dmaCredit_pos _ (by decide)

/-! ## What a device computes -/

/-- The 16 candidates of a block, descending: the first list the kernel stores. -/
def descOf (x : FVec F S512x4096 .f32) : FVec F S512x16 .f32 :=
  let m := k0_pay4 x
  let t := k0_pay5 x
  k0_pay36 (k0_pay3 x) (k0_pay6 t) (k0_pay8 m t) (k0_pay10 m t) (k0_pay12 m t) (k0_pay14 m t) (k0_pay16 m t) (k0_pay18 m t)
    (k0_pay19 m t) (k0_pay20 m t) (k0_pay21 m t) (Scalar.ofBits .f32 0xFF800000#32)

/-- The same, ascending: the second list, the one that is sent. -/
def ascOf (x : FVec F S512x4096 .f32) : FVec F S512x16 .f32 :=
  let m := k0_pay4 x
  let t := k0_pay5 x
  k0_pay37 (k0_pay35 (k0_pay3 x) (k0_pay6 t) (k0_pay8 m t) (k0_pay10 m t) (k0_pay12 m t) (k0_pay14 m t) (k0_pay16 m t) (k0_pay18 m t)
    (k0_pay19 m t) (k0_pay20 m t) (k0_pay21 m t) (Scalar.ofBits .f32 0xFF800000#32))

/-- The sent list as the kernel's payloads spell it. -/
theorem ascOf_spelt (x : FVec F S512x4096 .f32) :
    k0_pay37 (k0_pay35 (k0_pay3 x) (k0_pay6 (k0_pay5 x)) (k0_pay8 (k0_pay4 x) (k0_pay5 x)) (k0_pay10 (k0_pay4 x) (k0_pay5 x))
      (k0_pay12 (k0_pay4 x) (k0_pay5 x)) (k0_pay14 (k0_pay4 x) (k0_pay5 x)) (k0_pay16 (k0_pay4 x) (k0_pay5 x))
      (k0_pay18 (k0_pay4 x) (k0_pay5 x)) (k0_pay19 (k0_pay4 x) (k0_pay5 x)) (k0_pay20 (k0_pay4 x) (k0_pay5 x))
      (k0_pay21 (k0_pay4 x) (k0_pay5 x)) (FloatOps.ofBits .f32 0xFF800000#32)) = ascOf x := rfl

/-- The merge of the own descending list with the ascending list received. -/
def mergeOf (l r : FVec F S512x16 .f32) : FVec F S512x16 .f32 := k0_pay1 (k0_pay39 l r) (k0_pay40 l r)

variable (m : (ℓ : Loc nD τ sig) → Buf (Elt F) ℓ) (ρ : Dev nD → PrngReg)

/-- The memory at the start: any contents, every counter zero. -/
def s₀ : MemSt nD τ sig (Elt F) := ⟨m, fun _ => 0, ρ⟩

/-- Device `c`'s block as its window delivers it, and the list it sends. -/
def blk (c : Dev nD) : (cc0_stg0_0 : Ref sig .tc).ty.Contents (Elt F) :=
  (win0_0.blk (0 : Fin 1)).view.read (Elt F) ((s₀ m ρ).mem ((c : Thread nD τ).loc main_arg0))
def sent (c : Dev nD) : Buf (Elt F) ((c : Thread nD τ).loc cc0_scratch1) := ascOf (blk m ρ c)
/-- The result of device `c`. -/
def outAt (c : Dev nD) : (cc0_stg1_0 : Ref sig .tc).ty.Contents (Elt F) := mergeOf (descOf (blk m ρ c)) (ascOf (blk m ρ (peer c)))

/-- A list buffer of device `c` held whole at contents `f`: the one to send from, the one to land in. -/
def ascAt (c : Dev nD) (f : Buf (Elt F) ((ascM : Memref sig .tc .vmem S512x16 .f32).view.loc (c : Thread nD τ))) : sProp 𝕄 :=
  (ascM : Memref sig .tc .vmem S512x16 .f32).view.loc (c : Thread nD τ) ↦[(ascM : Memref sig .tc .vmem S512x16 .f32).view.set]{fullShare} f
def remAt (c : Dev nD) (f : Buf (Elt F) ((remM : Memref sig .tc .vmem S512x16 .f32).view.loc (c : Thread nD τ))) : sProp 𝕄 :=
  (remM : Memref sig .tc .vmem S512x16 .f32).view.loc (c : Thread nD τ) ↦[(remM : Memref sig .tc .vmem S512x16 .f32).view.set]{fullShare} f

omit [FloatOps F] in
theorem ascAt_eq (c : Dev nD) (f : Buf (Elt F) ((c : Thread nD τ).loc cc0_scratch1)) :
    ascAt c f = (((c : Thread nD τ).loc cc0_scratch1) ↦{fullShare} f : sProp 𝕄) := by unfold ascAt; rw [View.set_whole]
omit [FloatOps F] in
theorem remAt_eq (c : Dev nD) (f : Buf (Elt F) ((c : Thread nD τ).loc cc0_scratch2)) :
    remAt c f = (((c : Thread nD τ).loc cc0_scratch2) ↦{fullShare} f : sProp 𝕄) := by unfold remAt; rw [View.set_whole]

omit [FloatOps F] in
instance ascAt_storable (c : Dev nD) (f) : BI.Storable (upEmb : UEmb _ 𝕄) (ascAt (F := F) c f) := by unfold ascAt; infer_instance
omit [FloatOps F] in
instance remAt_storable (c : Dev nD) (f) : BI.Storable (upEmb : UEmb _ 𝕄) (remAt (F := F) c f) := by unfold remAt; infer_instance

omit [FloatOps F] in
/-- A list copied whole into a landing buffer is what the buffer then holds, whatever it held. -/
theorem copied_whole (c : Dev nD) (fd : Buf (Elt F) ((remM : Memref sig .tc .vmem S512x16 .f32).view.loc (c : Thread nD τ)))
    (fs : (cc0_scratch1 : Ref sig .tc).ty.Contents (Elt F)) :
    (remM : Memref sig .tc .vmem S512x16 .f32).view.write (Elt F) fd
      ((ascM : Memref sig .tc .vmem S512x16 .f32).view.read (Elt F) fs) Finset.univ = fs := by
  show (View.whole cc0_scratch2).write (Elt F) fd ((View.whole cc0_scratch1).read (Elt F) fs) Finset.univ = fs
  rw [View.read_whole]
  exact View.write_whole_univ _ _ _

/-! ## The payments -/

/-- What the payment of cell `k` of device `c` hands over. -/
def handed (c : Dev nD) : Fin 3 → sProp 𝕄
  | 0 => iprop((∃ f, remAt (peer c) f) ∗ reached EX (cell 2 (peer c)) 0)
  | 1 => ascAt c (sent m ρ c)
  | 2 => remAt c (sent m ρ (peer c))

instance handed_storable (c : Dev nD) (k : Fin 3) : BI.Storable (upEmb : UEmb _ 𝕄) (handed (F := F) m ρ c k) := by
  fin_cases k <;> dsimp only [handed] <;> infer_instance

/-- How much it pays: one unit, or a copy's credit. -/
def due : Fin 3 → ℕ | 0 => 1 | 1 => N | 2 => N

/-- Which of the three semaphores `g` is, if any. -/
def kindOf (g : GSem nD τ sig) : Option (Fin 3) :=
  if g.1.2 ≠ .tc then none else if g.2 = xsem 0 then some 0 else if g.2 = xsem 1 then some 1 else if g.2 = xsem 2 then some 2 else none

theorem kindOf_cell (k : Fin 3) (c : Dev nD) : kindOf (cell k c) = some k := by
  unfold kindOf
  rw [if_neg (fun h => h rfl)]
  fin_cases k
  · exact if_pos rfl
  · rw [if_neg (show xsem 1 ≠ xsem 0 by decide)]; exact if_pos rfl
  · rw [if_neg (show xsem 2 ≠ xsem 0 by decide), if_neg (show xsem 2 ≠ xsem 1 by decide)]; exact if_pos rfl

/-- The schedule: one round, one payment per cell of the exchange. -/
def plan : Rounds.Schedule (GSem nD τ sig) Unit 𝕄 where
  duties g r := if r = 0 ∧ (kindOf g).isSome then {()} else ∅
  unitless _ := False
  amount g _ _ := ((kindOf g).map due).getD 1
  payload g _ _ := ((kindOf g).map (handed m ρ g.1.1)).getD iprop(emp)
  amount_pos g _ _ _ := by
    rcases kindOf g with _ | k
    · exact Nat.one_pos
    · show 0 < due k
      fin_cases k
      · exact Nat.one_pos
      · exact N_pos
      · exact N_pos

instance plan_storable (g : GSem nD τ sig) (r : ℕ) (d : Unit) : BI.Storable (upEmb : UEmb _ 𝕄) ((plan (F := F) m ρ).payload g r d) := by
  show BI.Storable upEmb (((kindOf g).map (handed m ρ g.1.1)).getD iprop(emp))
  rcases kindOf g with _ | k
  · show BI.Storable upEmb (iprop(emp) : sProp 𝕄); infer_instance
  · exact handed_storable m ρ g.1.1 k

theorem plan_duties (k : Fin 3) (c : Dev nD) : (plan (F := F) m ρ).duties (cell k c) 0 = {()} := by
  dsimp only [plan]; rw [kindOf_cell]; exact if_pos ⟨rfl, rfl⟩
theorem plan_later (g : GSem nD τ sig) : ∀ r, 1 ≤ r → (plan (F := F) m ρ).duties g r = ∅ :=
  fun r hr => by dsimp only [plan]; exact if_neg fun h => absurd h.1 (by omega)
theorem plan_amount (k : Fin 3) (c : Dev nD) (d : Unit) : (plan (F := F) m ρ).amount (cell k c) 0 d = due k := by
  dsimp only [plan]; rw [kindOf_cell]; rfl
theorem plan_payload (k : Fin 3) (c : Dev nD) (d : Unit) : (plan (F := F) m ρ).payload (cell k c) 0 d = handed m ρ c k := by
  dsimp only [plan]; rw [kindOf_cell]; rfl
theorem plan_expect (k : Fin 3) (c : Dev nD) : (plan (F := F) m ρ).expect (cell k c) 0 = due k := by
  unfold Schedule.expect Schedule.amountOf; rw [plan_duties, Finset.sum_singleton, plan_amount]
/-- What a wait for the whole round of a cell receives. -/
theorem plan_rest (k : Fin 3) (c : Dev nD) :
    bigSep ((plan (F := F) m ρ).duties (cell k c) 0 \ ∅) (fun d => (plan (F := F) m ρ).payload (cell k c) 0 d) = handed m ρ c k := by
  rw [Finset.sdiff_empty, plan_duties, bigSep_singleton, plan_payload]

/-! ## What a device owes at the start, and the levels -/

/-- Device `c` owes its peer's receive cell a copy's credit and its peer's barrier cell one unit, which it pays first. -/
def owesCopy (c : Dev nD) : CellTallies nD τ sig Unit := tallyAt (cell 2 (peer c)) () N
def owesAll (c : Dev nD) : CellTallies nD τ sig Unit := owesCopy c + tallyAt (cell 0 (peer c)) () 1

def indices (g : GSem nD τ sig) : Finset Unit := if g.1.2 = .tc then {()} else ∅
def level (g : GSem nD τ sig) (_ : Unit) : ℕ := if g.2 = xsem 0 then 1 else if g.2 = xsem 2 then 2 else 0

theorem indices_of_ne (g : GSem nD τ sig) (h : g.1.2 ≠ .tc) : indices g = ∅ := if_neg h
theorem mem_indices (c : Dev nD) (sm : SemLoc sig) (u : Unit) : u ∈ indices ((c : Thread nD τ), sm) := by
  unfold indices; rw [if_pos rfl]; exact Finset.mem_singleton_self _

theorem level_bar (c : Dev nD) (u : Unit) : level (cell 0 c) u = 1 := if_pos rfl
theorem level_recv (c : Dev nD) (u : Unit) : level (cell 2 c) u = 2 := by
  unfold level; rw [if_neg (show xsem 2 ≠ xsem 0 by decide)]; exact if_pos rfl

theorem owesCopy_at {c : Dev nD} {g : GSem nD τ sig} {u : Unit} (h : 0 < owesCopy c g u) : g = cell 2 (peer c) := by
  unfold owesCopy at h; rw [tallyAt_apply] at h
  by_contra hn
  rw [if_neg (fun h' => hn h'.1)] at h
  exact Nat.lt_irrefl 0 h
theorem owesAll_at {c : Dev nD} {g : GSem nD τ sig} {u : Unit} (h : 0 < owesAll c g u) : g = cell 2 (peer c) ∨ g = cell 0 (peer c) := by
  unfold owesAll at h
  rw [Pi.add_apply, Finsupp.add_apply] at h
  rcases Nat.eq_zero_or_pos (owesCopy c g u) with h0 | h0
  · rw [h0, Nat.zero_add, tallyAt_apply] at h
    by_contra hn
    rw [if_neg (fun h' => hn (.inr h'.1))] at h
    exact Nat.lt_irrefl 0 h
  · exact .inl (owesCopy_at h0)

omit [FloatOps F] in
/-- A staging copy may be waited for at the start (everything owed lies above level 0) and at the end (nothing is owed). -/
theorem mayWait_stage (c : Dev nD) (q : DmaSem sig) (hq : SemLoc.dma q ≠ xsem 2) (O : CellTallies nD τ sig Unit) (hO : O = owesAll c ∨ O = 0) :
    (levAts indices level : sProp 𝕄) ⊢ MayWait (c : Thread nD τ) (.dma q) () O := by
  rcases hO with rfl | rfl
  · refine MayOwe.of_cut (L := indices) (lev := level) 0 (fun p hp => by rw [Finset.mem_singleton.mp hp]; exact mem_indices _ _ _)
      (fun g u hg => by rcases owesAll_at hg with rfl | rfl <;> exact mem_indices _ _ _)
      (fun p hp => by
        rw [Finset.mem_singleton.mp hp]; dsimp only [level]
        rw [if_neg (fun h => by cases h), if_neg hq])
      (fun g u hg => by
        rcases owesAll_at hg with rfl | rfl
        · rw [level_recv]; decide
        · rw [level_bar]; decide)
  · rw [MayWait_zero]; iintro -; iempintro

omit [FloatOps F] in
/-- At its barrier wait a device owes only its peer's receive cell, which lies above every barrier cell. -/
theorem mayWait_barrier (c : Dev nD) : (levAts indices level : sProp 𝕄) ⊢ MayWait (c : Thread nD τ) (.reg barS) () (owesCopy c) :=
  MayOwe.of_cut (L := indices) (lev := level) 1 (fun p hp => by rw [Finset.mem_singleton.mp hp]; exact mem_indices _ _ _)
    (fun g u hg => by rw [owesCopy_at hg]; exact mem_indices _ _ _)
    (fun p hp => by rw [Finset.mem_singleton.mp hp]; exact (level_bar c ()).le)
    (fun g u hg => by rw [owesCopy_at hg, level_recv]; decide)

end Cert.TopK

end
-- ==== Proof.Body.lean ====
/-
# One device's kernel, run effect by effect

From its block, its three buffers and its share of the exchange, a device's kernel ends with the merge of its own
candidates and its peer's in the result window, and with the three semaphores of the exchange at zero.
-/
module

public import proofs.«01_k».proof.Proof.Protocol

@[expose] public section

noncomputable section

namespace Cert.TopK

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- A device's share of the exchange, the cells' invariants lying at the names `K`: its own three cells and its peer's
    barrier and receive cells; its places in its own rounds; and the rights to make its three payments. -/
def share (K : Fin 3 → Dev nD → ℕ) (c : Dev nD) : sProp 𝕄 :=
  iprop((cellInv EX (plan m ρ) (K 0 c) (cell 0 c) ∗ cellInv EX (plan m ρ) (K 1 c) (cell 1 c) ∗ cellInv EX (plan m ρ) (K 2 c) (cell 2 c)
      ∗ cellInv EX (plan m ρ) (K 0 (peer c)) (cell 0 (peer c)) ∗ cellInv EX (plan m ρ) (K 2 (peer c)) (cell 2 (peer c)))
    ∗ (reached EX (cell 0 (peer c)) 0 ∗ reached EX (cell 1 c) 0 ∗ reached EX (cell 2 c) 0)
    ∗ (atPos EX (cell 0 c) 0 ∅ 0 ∗ atPos EX (cell 1 c) 0 ∅ 0 ∗ atPos EX (cell 2 c) 0 ∅ 0)
    ∗ (dutyTok EX (cell 0 (peer c)) 0 () ∗ dutyTok EX (cell 1 c) 0 () ∗ dutyTok EX (cell 2 (peer c)) 0 ()))

/-- What will be paid to it, and the levels. -/
def promised (c : Dev nD) : sProp 𝕄 :=
  iprop(cred (tallyAt (cell 0 c) () 1) ∗ cred (tallyAt (cell 2 c) () N) ∗ levAts indices level)

/-- The kernel's own three buffers, at some contents. -/
def buffers (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def atStart (c : Dev nD) : sProp 𝕄 := iprop(((∃ K, share m ρ K c) ∗ promised c) ∗ buffers c)
def atEnd (c : Dev nD) : sProp 𝕄 := iprop(buffers c ∗ semVal (cell 1 c) 0 ∗ semVal (cell 2 c) 0 ∗ semVal (cell 0 c) 0)

/-- The launch's data: the arrays as they are, the result window left at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blk m ρ c
    | ⟨1, _⟩ => outAt m ρ c
  Φ t := match t with
    | ⟨0, _⟩ => atStart m ρ c
    | ⟨_ + 1, _⟩ => atEnd c
  q _ := fullShare
  owed t := match t with
    | ⟨0, _⟩ => owesAll c
    | ⟨_ + 1, _⟩ => 0

abbrev 𝒱₀ : Variants := Variants.none

theorem cfg0_N : cfg0.N = 1 := N_0
abbrev pt : Fin cfg0.N := t0_0
theorem eq_pt (t : Fin cfg0.N) : t = pt := fin_N0 t
theorem fetched (t : Fin cfg0.N) : (cfg0.win (0 : Fin 2)).fetch t = true := by rw [eq_pt t]; rfl

/-! ## Whole-buffer loads and stores -/

theorem origin : (![0, 0] : Fin 2 → Nat) = fun _ => 0 := funext fun a => by fin_cases a <;> rfl

abbrev r16 : Rect S512x16 := Rect.unit (s := S512x16) ![0, 0] S512x16.size inb_S512x16_S512x16_0_0
abbrev rX : Rect S512x4096 := Rect.unit (s := S512x4096) ![0, 0] S512x4096.size inb_S512x4096_S512x4096_0_0

omit [FloatOps F] in
theorem load_blk (f : (cc0_stg0_0 : Ref sig .tc).ty.Contents (Elt F)) : (blkM : Memref sig .tc .vmem S512x4096 .f32).view.readAt (Elt F) rX.toLoadRect f = f :=
  Memref.readAt_unit_zero (Elt F) cc0_stg0_0 origin _ f
omit [FloatOps F] in
theorem load_own (f : (cc0_scratch0 : Ref sig .tc).ty.Contents (Elt F)) : (ownM : Memref sig .tc .vmem S512x16 .f32).view.readAt (Elt F) r16.toLoadRect f = f :=
  Memref.readAt_unit_zero (Elt F) cc0_scratch0 origin _ f
omit [FloatOps F] in
theorem load_rem (f : (cc0_scratch2 : Ref sig .tc).ty.Contents (Elt F)) : (remM : Memref sig .tc .vmem S512x16 .f32).view.readAt (Elt F) r16.toLoadRect f = f :=
  Memref.readAt_unit_zero (Elt F) cc0_scratch2 origin _ f
omit [FloatOps F] in
theorem store_own (f w : (cc0_scratch0 : Ref sig .tc).ty.Contents (Elt F)) :
    ((ownM : Memref sig .tc .vmem S512x16 .f32).access r16 : View sig .tc _ _ _).write (Elt F) f w Finset.univ = w :=
  Memref.write_access_unit_zero_univ (Elt F) cc0_scratch0 origin _ f w
omit [FloatOps F] in
theorem store_asc (f w : (cc0_scratch1 : Ref sig .tc).ty.Contents (Elt F)) :
    ((ascM : Memref sig .tc .vmem S512x16 .f32).access r16 : View sig .tc _ _ _).write (Elt F) f w Finset.univ = w :=
  Memref.write_access_unit_zero_univ (Elt F) cc0_scratch1 origin _ f w
omit [FloatOps F] in
theorem store_out (f w : (cc0_stg1_0 : Ref sig .tc).ty.Contents (Elt F)) :
    ((outM : Memref sig .tc .vmem S512x16 .f32).access r16 : View sig .tc _ _ _).write (Elt F) f w Finset.univ = w :=
  Memref.write_access_unit_zero_univ (Elt F) cc0_stg1_0 origin _ f w

/-! ## The copy -/

/-- The copy of the ascending list to device `n`, the peer: it takes the list, the peer's landing buffer and the two
    payments' rights, discharges what is owed, and leaves the promise of the send semaphore. -/
theorem wp_copy (K : Fin 3 → Dev nD → ℕ) (c n : Dev nD) (hn : n = peer c)
    {hsc : (remM : Memref sig (Dev.tc n : Thread nD τ).2.kind .vmem S512x16 .f32).view.ref.isScScratch = false}
    {hsrc : (ascM : Memref sig .tc .vmem S512x16 .f32).view.WordExact} {hdst : (remM : Memref sig .tc .vmem S512x16 .f32).view.WordExact}
    {hsem : DmaTarget.Typed .vmem (.dma recvS.sem) (.remote (Dev.tc n : Thread nD τ) (remM : Memref sig .tc .vmem S512x16 .f32) (.dma sendS.sem) hsc)}
    {α : Type} {Q : α → sProp 𝕄} {k : PUnit → Prog (TpuEff nD τ sig (Elt F) Λ₀ .tc) α}
    (fn : Buf (Elt F) ((remM : Memref sig .tc .vmem S512x16 .f32).view.loc (peer c : Thread nD τ))) (W : Waits sig Unit) :
    iprop(cellInv EX (plan m ρ) (K 1 c) (cell 1 c) ∗ cellInv EX (plan m ρ) (K 2 (peer c)) (cell 2 (peer c))
        ∗ ascAt c (sent m ρ c) ∗ remAt (peer c) fn ∗ owes (c : Thread nD τ) (owesCopy c) W
        ∗ dutyTok EX (cell 1 c) 0 () ∗ reached EX (cell 1 c) 0 ∗ dutyTok EX (cell 2 (peer c)) 0 () ∗ reached EX (cell 2 (peer c)) 0)
      ⊢ iprop(((cred (tallyAt (cell 1 c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ascM (.remote (Dev.tc n : Thread nD τ) remM (.dma sendS.sem) hsc) (.dma recvS.sem) hsrc hdst hsem) k) Q) := by
  subst hn
  unfold ascAt remAt owesCopy
  exact Rounds.wp_send_pointsTo 𝒱₀ EX (plan m ρ) (c : Thread nD τ) none (κ₁ := K 1 c) (κ₂ := K 2 (peer c))
    (r₁ := 0) (r₂ := 0) (d₁ := ()) (d₂ := ()) (fd := fn)
    (by rw [plan_duties]; exact Finset.mem_singleton_self _) (by rw [plan_duties]; exact Finset.mem_singleton_self _)
    () () N rfl (plan_amount m ρ 1 c ()) (plan_amount m ρ 2 (peer c) ()) 0 (by rw [zero_add]) (W := W)
    (by rw [plan_payload]; exact BI.Entails.refl _)
    (by
      rw [plan_payload]; dsimp only [handed]; unfold remAt
      rw [copied_whole, peer_peer])

/-! ## The body -/

/-- A staging buffer at contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

def pre (K : Fin 3 → Dev nD → ℕ) (c : Dev nD) : sProp 𝕄 :=
  iprop(((share m ρ K c ∗ promised c) ∗ buffers c) ∗ (dats m ρ 0 c).owesAt () pt.castSucc
    ∗ (∃ d, staged c cc0_stg0_0 ((dats m ρ 0 c).before (0 : Fin 2) pt d)) ∗ (∃ d, staged c cc0_stg1_0 ((dats m ρ 0 c).before (1 : Fin 2) pt d)))
def post (c : Dev nD) : sProp 𝕄 :=
  iprop(atEnd c ∗ (dats m ρ 0 c).owesAt () pt.succ ∗ staged c cc0_stg0_0 (blk m ρ c) ∗ staged c cc0_stg1_0 (outAt m ρ c))

set_option maxHeartbeats 1600000 in
theorem wp_body (K : Fin 3 → Dev nD → ℕ) (c : Dev nD) (Kt : PUnit → sProp 𝕄) :
    iprop(pre m ρ K c ∗ (post m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold pre share promised buffers
  iintro ⟨⟨⟨⟨⟨⟨#Ib, #Is, #Ir, #Ib', #Ir'⟩, ⟨#Rb', #Rs, #Rr⟩, ⟨Ab, As, Ar⟩, ⟨Tb', Ts, Tr'⟩⟩, ⟨Cb, Cr, #Lev⟩⟩, ⟨⟨%f0, Hown⟩, ⟨%f1, Hasc⟩, ⟨%f2, Hrem⟩⟩⟩,
    Ho, ⟨%d0, %g0, %hg0, Hx⟩, ⟨%d1, %g1, %hg1, Hout⟩⟩, Hk⟩
  have hx : g0 = blk m ρ c := by rw [hg0]; unfold Dat.before; rw [if_pos (fetched pt)]; rfl
  subst hx
  unfold Dat.owesAt Pipeline.owesWithin
  icases Ho with ⟨%W, %hW, HO⟩
  rw [show (dats m ρ 0 c).owed pt.castSucc = owesAll c from rfl]
  simp only [signalled_eq c]
  -- the signal to the peer: the own landing buffer goes with it
  unfold owesAll
  ihave Hrem := (Entails.of_eq (remAt_eq c f2).symm) $$ Hrem
  iapply (Rounds.wp_signal 𝒱₀ EX (plan m ρ) (c : Thread nD τ) none (dst := (peer c : Thread nD τ)) (κ := K 0 (peer c))
      (d := ()) (by rw [plan_duties m ρ 0]; exact Finset.mem_singleton_self _) ((plan_amount m ρ 0 (peer c) ()).trans (by decide)) () (owesCopy c) rfl)
    $$ [HO Tb' Hrem]
  · isplitr; · iexact Ib'
    isplitl [HO]; · iexact HO
    isplitl [Tb']; · iexact Tb'
    isplitl [Hrem]
    · rw [plan_payload m ρ 0]; dsimp only [handed]; rw [peer_peer]
      isplitl [Hrem]; · iexists f2; iexact Hrem
      iexact Rr
    · iexact Rb'
  iintro HO
  -- the wait for the peer's signal: the peer's landing buffer comes with it
  iapply (Rounds.wp_wait_rest_token 𝒱₀ EX (plan m ρ) (c : Thread nD τ) none (κ := K 0 c)
      (wpE_semWait_eq 𝒱₀ (c : Thread nD τ) none Set.univ) (Set.mem_univ _) () (O := owesCopy c) (W := W) (R := 0) (m := 0) (T := ∅)
      (by rw [plan_expect m ρ 0]; decide)) $$ [Cb HO Ab]
  · isplitr; · iexact Ib
    isplitl [Cb]; · iexact Cb
    isplitl [HO]; · iexact HO
    isplitr; · iapply (mayWait_barrier c); iexact Lev
    iexact Ab
  iintro ⟨HO, Ab, -, Hpay⟩
  ihave Hp := (Entails.of_eq (plan_rest m ρ 0 c)) $$ Hpay
  dsimp only [handed]
  icases Hp with ⟨⟨%fn, HremP⟩, #Rr'⟩
  -- the block is read, the two lists are stored
  iapply (wp_load 𝒱₀ (c : Thread nD τ) none Set.univ (m := blkM) (Finset.subset_univ _)) $$ Hx; iintro Hx
  rw [load_blk]
  iapply (wp_load 𝒱₀ (c : Thread nD τ) none Set.univ (m := ownM) (Finset.subset_univ _)) $$ Hown; iintro Hown
  iapply (wp_store 𝒱₀ (c : Thread nD τ) none Set.univ (m := ownM) (r := r16) (Mk := Finset.univ) (Finset.subset_univ _)) $$ Hown; iintro Hown
  rw [store_own]
  iapply (wp_load 𝒱₀ (c : Thread nD τ) none Set.univ (m := ascM) (Finset.subset_univ _)) $$ Hasc; iintro Hasc
  iapply (wp_store 𝒱₀ (c : Thread nD τ) none Set.univ (m := ascM) (r := r16) (Mk := Finset.univ) (Finset.subset_univ _)) $$ Hasc; iintro Hasc
  rw [store_asc, ascOf_spelt, show ascOf (blk m ρ c) = sent m ρ c from rfl]
  -- the copy
  ihave Hasc := (Entails.of_eq (ascAt_eq c (sent m ρ c)).symm) $$ Hasc
  iapply (wp_copy m ρ K c _ (copied_eq c) fn (insert (SemLoc.reg barS, ()) W)) $$ [Hasc HremP HO Ts Tr']
  · isplitr; · iexact Is
    isplitr; · iexact Ir'
    isplitl [Hasc]; · iexact Hasc
    isplitl [HremP]; · iexact HremP
    isplitl [HO]; · iexact HO
    isplitl [Ts]; · iexact Ts
    isplitr; · iexact Rs
    isplitl [Tr']; · iexact Tr'
    iexact Rr'
  iintro ⟨Cs, HO⟩
  -- the wait on the send semaphore: the own ascending list is back
  iapply (Rounds.wp_wait_rest_token 𝒱₀ EX (plan m ρ) (c : Thread nD τ) none (κ := K 1 c)
      (wpE_waitDma2_eq 𝒱₀ (c : Thread nD τ) none Set.univ) (Set.mem_univ _) () (O := 0) (W := insert (SemLoc.reg barS, ()) W) (R := 0) (m := 0) (T := ∅)
      (by rw [Nat.zero_add, plan_expect m ρ 1]; rfl)) $$ [Cs HO As]
  · isplitr; · iexact Is
    isplitl [Cs]; · iexact Cs
    isplitl [HO]; · iexact HO
    isplitr; · rw [MayWait_zero]; iempintro
    iexact As
  iintro ⟨HO, As, -, Hpay⟩
  ihave Hasc := (Entails.of_eq ((plan_rest m ρ 1 c).trans (ascAt_eq c (sent m ρ c)))) $$ Hpay
  -- the wait on the receive semaphore: the peer's list has landed
  iapply (Rounds.wp_wait_rest_token 𝒱₀ EX (plan m ρ) (c : Thread nD τ) none (κ := K 2 c)
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, plan_expect m ρ 2]; rfl)) $$ [Cr HO Ar]
  · isplitr; · iexact Ir
    isplitl [Cr]; · iexact Cr
    isplitl [HO]; · iexact HO
    isplitr; · rw [MayWait_zero]; iempintro
    iexact Ar
  iintro ⟨HO, Ar, -, Hpay⟩
  ihave Hrem := (Entails.of_eq ((plan_rest m ρ 2 c).trans (remAt_eq c (sent m ρ (peer c))))) $$ Hpay
  -- every round is over: the counters are the device's again, at zero
  imod (Rounds.cell_close EX (plan m ρ) (Set.mem_univ (K 1 c)) (fun h => h) (R := 0 + 1) (plan_later m ρ (cell 1 c))) $$ [As] with Zs
  · isplitr; · iexact Is
    iexact As
  imod (Rounds.cell_close EX (plan m ρ) (Set.mem_univ (K 2 c)) (fun h => h) (R := 0 + 1) (plan_later m ρ (cell 2 c))) $$ [Ar] with Zr
  · isplitr; · iexact Ir
    iexact Ar
  imod (Rounds.cell_close EX (plan m ρ) (Set.mem_univ (K 0 c)) (fun h => h) (R := 0 + 1) (plan_later m ρ (cell 0 c))) $$ [Ab] with Zb
  · isplitr; · iexact Ib
    iexact Ab
  -- the merge
  iapply (wp_load 𝒱₀ (c : Thread nD τ) none Set.univ (m := ownM) (Finset.subset_univ _)) $$ Hown; iintro Hown
  rw [load_own]
  iapply (wp_load 𝒱₀ (c : Thread nD τ) none Set.univ (m := remM) (Finset.subset_univ _)) $$ Hrem; iintro Hrem
  rw [load_rem]
  iapply (wp_load 𝒱₀ (c : Thread nD τ) none Set.univ (m := outM) (Finset.subset_univ _)) $$ Hout; iintro Hout
  iapply (wp_store 𝒱₀ (c : Thread nD τ) none Set.univ (m := outM) (r := r16) (Mk := Finset.univ) (Finset.subset_univ _)) $$ Hout; iintro Hout
  rw [store_out, wp_ret]; imodintro
  iapply Hk
  unfold post atEnd buffers Dat.owesAt Pipeline.owesWithin
  rw [show (dats m ρ 0 c).owed pt.succ = 0 from rfl]
  isplitl [Hown Hasc Hrem Zs Zr Zb]
  · isplitl [Hown Hasc Hrem]
    · isplitl [Hown]; · iexists _; iexact Hown
      isplitl [Hasc]; · iexists _; iexact Hasc
      iexists _; iexact Hrem
    isplitl [Zs]; · iexact Zs
    isplitl [Zr] <;> iassumption
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The one point of the launch, as the launch theorem asks for it. -/
theorem body_obligation (c : Dev nD) : BodyObligation (dats (F := F) m ρ 0 c) (defs₀ (F := F)) 𝒱₀ () Set.univ := fun t => by
  rw [eq_pt t]
  rw [bigSep_W0, bigSep_W0]
  simp only [owns_staged]
  show iprop(atStart m ρ c ∗ (dats m ρ 0 c).owesAt () pt.castSucc
      ∗ (∃ d, staged c cc0_stg0_0 ((dats m ρ 0 c).before (0 : Fin 2) pt d)) ∗ (∃ d, staged c cc0_stg1_0 ((dats m ρ 0 c).before (1 : Fin 2) pt d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4) (fun _ => post m ρ c)
  unfold atStart
  iintro ⟨⟨⟨⟨%K, Hs⟩, Hp⟩, Hb⟩, Ho, Hx, Hout⟩
  iapply (wp_body m ρ K c fun _ => post m ρ c)
  unfold pre
  isplitr []
  · isplitl [Hs Hp Hb]
    · isplitl [Hs Hp]
      · isplitl [Hs] <;> iassumption
      iexact Hb
    isplitl [Ho]; · iexact Ho
    isplitl [Hx] <;> iassumption
  · iintro H; iexact H

end Cert.TopK

end
-- ==== Proof.Launch.lean ====
/-
# The launch: all four devices

The exchange's ghost state is minted for all devices at once and dealt out: every device keeps its places in its own rounds
and receives the rights to the payments it makes, two of which belong to its peer's cells. The run ends with every device's
result array holding the merge of its own candidates and its peer's, the argument unchanged, and every semaphore at zero.
-/
module

public import proofs.«01_k».proof.Proof.Body
public import Idealize.ShloMosaic.Lib.Pipeline.CollectiveSegs
public import Idealize.ShloMosaic.Lib.Pipeline.Value
public import Idealize.ShloMosaic.Lib.Pipeline.ValueKit.Geometry

@[expose] public section

noncomputable section

namespace Cert.TopK

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Minting -/

/-- The kernel's own semaphores, the send and the receive one. -/
abbrev ownSem : Fin 2 → SemLoc sig := fun | 0 => .dma sendS.sem | 1 => .dma recvS.sem
theorem ownSem_facts : Pipeline.OwnSemFacts cfg0.spec ownSem := by decide

theorem full_share (c : Dev nD) (w : Fin cfg0.W) : (dats m ρ 0 c).share w = fullShare := by unfold Dat.share; split <;> rfl

/-- The cells of the exchange, and the one payment of each. -/
def cells : Finset (GSem nD τ sig) :=
  Finset.univ.map ⟨fun ck : Dev nD × Fin 3 => cell ck.2 ck.1, fun _ _ h => Prod.ext (cell_eq_iff.mp h).2 (cell_eq_iff.mp h).1⟩
def payments : Finset (GSem nD τ sig × ℕ × Unit) :=
  Finset.univ.map ⟨fun ck : Dev nD × Fin 3 => (cell ck.2 ck.1, 0, ()), fun _ _ h =>
    Prod.ext (cell_eq_iff.mp (congrArg Prod.fst h)).2 (cell_eq_iff.mp (congrArg Prod.fst h)).1⟩

def u₀ : UU := (initOf (Pipeline.cells cfgs cellOf_inj) (Pipeline.launchToks cfgs cellOf_inj), initOf cells payments)

/-- What the minting gives for cell `k` of device `c`, besides its round state. -/
def place (c : Dev nD) (k : Fin 3) : sProp 𝕄 := iprop((atPos EX (cell k c) 0 ∅ 0 ∗ reached EX (cell k c) 0) ∗ dutyTok EX (cell k c) 0 ())
def minted (c : Dev nD) : sProp 𝕄 := bigSep Finset.univ fun k : Fin 3 => iprop(roundState EX (plan m ρ) (cell k c) 0 ∗ place c k)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

theorem mint : BI.own (EX (initOf cells payments)) ⊢ (|==> bigSep Finset.univ (minted m ρ) : sProp 𝕄) := by
  have hC (Φ : GSem nD τ sig → sProp 𝕄) : bigSep cells Φ = bigSep Finset.univ fun c : Dev nD => bigSep Finset.univ fun k : Fin 3 => Φ (cell k c) := by
    unfold cells; rw [bigSep_map, bigSep_univ_prod]; rfl
  have hP : bigSep payments (fun x => (dutyTok EX x.1 x.2.1 x.2.2 : sProp 𝕄))
      = bigSep Finset.univ fun c : Dev nD => bigSep Finset.univ fun k : Fin 3 => dutyTok EX (cell k c) 0 () := by
    unfold payments; rw [bigSep_map, bigSep_univ_prod]; rfl
  iintro HX
  imod (Rounds.fund EX (plan m ρ) cells payments) $$ HX with ⟨Hst, Hr, Hat, Htok⟩
  imodintro
  ihave Hst := (Entails.of_eq (hC fun g => roundState EX (plan m ρ) g 0)) $$ Hst
  ihave Hat := (Entails.of_eq (hC fun g => atPos EX g 0 ∅ 0)) $$ Hat
  ihave Hr := (Entails.of_eq (hC fun g => reached EX g 0)) $$ Hr
  ihave Htok := (Entails.of_eq hP) $$ Htok
  unfold minted place; simp only [bigSep_sep']
  isplitl [Hst]; · iexact Hst
  isplitl [Hat Hr]
  · isplitl [Hat] <;> iassumption
  iexact Htok

/-! ## The cells' invariants, and the dealing -/

omit [FloatOps F] in
theorem own_sems (c : Dev nD) : (Pipeline.ownSems0 (Ix := Unit) (Name := ℕ) (U := UU) (Lvl := ℕ) (Val := Elt F) (τ := τ) ownSem c : sProp 𝕄)
    = iprop(semVal (cell 1 c) 0 ∗ semVal (cell 2 c) 0) := by
  rw [Pipeline.ownSems0_eq_of_list c ownSem [0, 1] (by decide) (by decide)]; rfl
omit [FloatOps F] in
/-- The barrier semaphore is the only one that outlives the launch. -/
theorem barrier_sem (c : Dev nD) : (unscopedSems0 c : sProp 𝕄) = semVal (cell 0 c) 0 := by
  unfold unscopedSems0; rw [bigSep_eq_bigSepL_of_eq [SemLoc.reg barS] (by decide) (by decide)]; rfl

/-- A device's cells with their invariants. -/
def opened (c : Dev nD) : sProp 𝕄 :=
  bigSep Finset.univ fun k : Fin 3 => iprop((∃ κ : ℕ, cellInv EX (plan m ρ) κ (cell k c)) ∗ place c k)

theorem open_cells (c : Dev nD) :
    iprop(Pipeline.ownSems0 (Ix := Unit) (Name := ℕ) (U := UU) (Lvl := ℕ) (Val := Elt F) (τ := τ) ownSem c ∗ unscopedSems0 c ∗ minted m ρ c)
      ⊢ |={Set.univ}=> opened m ρ c := by
  have hk (k : Fin 3) : iprop(semVal (cell k c) 0 ∗ roundState EX (plan m ρ) (cell k c) 0 ∗ place c k)
      ⊢ (|={Set.univ}=> iprop((∃ κ : ℕ, cellInv EX (plan m ρ) κ (cell k c)) ∗ place c k) : sProp 𝕄) := by
    iintro ⟨Hv, Hst, Hp⟩
    imod ((Rounds.body_intro EX (plan m ρ) (cell k c)).trans inv_alloc) $$ [Hv Hst] with HI
    · isplitl [Hv] <;> iassumption
    imodintro
    isplitl [HI] <;> iassumption
  refine BIBase.Entails.trans ?_ ((bigSep_mono (s := Finset.univ) fun k _ => hk k).trans (bigSep_fupd _ _))
  rw [own_sems, barrier_sem, bigSep_sep', bigSep_three (fun k => semVal (cell k c) 0)]
  unfold minted
  iintro ⟨⟨Hs, Hr⟩, Hb, HM⟩
  isplitr [HM]
  · isplitl [Hb]; · iexact Hb
    isplitl [Hs] <;> iassumption
  iexact HM

/-- What every device may use: all invariants, and that every cell has reached its round. -/
def common (K : Fin 3 → Dev nD → ℕ) : sProp 𝕄 :=
  bigSep Finset.univ fun ck : Dev nD × Fin 3 => iprop(cellInv EX (plan m ρ) (K ck.2 ck.1) (cell ck.2 ck.1) ∗ reached EX (cell ck.2 ck.1) 0)
instance common_persistent (K : Fin 3 → Dev nD → ℕ) : BI.Persistent (common m ρ K) := by unfold common; infer_instance

theorem common_inv (K : Fin 3 → Dev nD → ℕ) (k : Fin 3) (c : Dev nD) : common m ρ K ⊢ cellInv EX (plan m ρ) (K k c) (cell k c) := by
  unfold common
  refine BIBase.Entails.trans (bigSep_elim (Finset.mem_univ (c, k))) ?_
  iintro ⟨H, -⟩; iexact H
theorem common_reached (K : Fin 3 → Dev nD → ℕ) (k : Fin 3) (c : Dev nD) : common m ρ K ⊢ reached EX (cell k c) 0 := by
  unfold common
  refine BIBase.Entails.trans (bigSep_elim (Finset.mem_univ (c, k))) ?_
  iintro ⟨-, H⟩; iexact H

/-- A device's places in its own rounds, and the rights to the payments that it makes. -/
def kept (c : Dev nD) : sProp 𝕄 :=
  iprop((atPos EX (cell 0 c) 0 ∅ 0 ∗ atPos EX (cell 1 c) 0 ∅ 0 ∗ atPos EX (cell 2 c) 0 ∅ 0)
    ∗ (dutyTok EX (cell 0 (peer c)) 0 () ∗ dutyTok EX (cell 1 c) 0 () ∗ dutyTok EX (cell 2 (peer c)) 0 ()))

theorem share_intro (K : Fin 3 → Dev nD → ℕ) (c : Dev nD) : iprop(common m ρ K ∗ kept c) ⊢ iprop(∃ K, share m ρ K c) := by
  unfold kept share
  iintro ⟨#H, Hat, Htok⟩
  iexists K
  isplitr
  · isplitr; · iapply (common_inv m ρ K 0 c); iexact H
    isplitr; · iapply (common_inv m ρ K 1 c); iexact H
    isplitr; · iapply (common_inv m ρ K 2 c); iexact H
    isplitr; · iapply (common_inv m ρ K 0 (peer c)); iexact H
    iapply (common_inv m ρ K 2 (peer c)); iexact H
  isplitr
  · isplitr; · iapply (common_reached m ρ K 0 (peer c)); iexact H
    isplitr; · iapply (common_reached m ρ K 1 c); iexact H
    iapply (common_reached m ρ K 2 c); iexact H
  isplitl [Hat] <;> iassumption

omit [FloatOps F] in
/-- The rights of the barrier and receive cells change hands within each pair. -/
theorem deal : (bigSep Finset.univ fun c : Dev nD => iprop((bigSep Finset.univ fun k : Fin 3 => atPos EX (cell k c) 0 ∅ 0) ∗ bigSep Finset.univ fun k : Fin 3 => dutyTok EX (cell k c) 0 ()) : sProp 𝕄)
    ⊢ bigSep Finset.univ fun c : Dev nD => kept c := by
  unfold kept
  simp only [bigSep_three, bigSep_sep']
  rw [bigSep_univ_equiv peers (fun c : Dev nD => (dutyTok EX (cell 0 c) 0 () : sProp 𝕄)),
    bigSep_univ_equiv peers (fun c : Dev nD => (dutyTok EX (cell 2 c) 0 () : sProp 𝕄))]
  exact Entails.refl _

omit [FloatOps F] in
theorem with_common {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem deal_opened : (bigSep Finset.univ (opened m ρ) : sProp 𝕄) ⊢ bigSep Finset.univ fun c => iprop(∃ K, share m ρ K c) := by
  have hsplit : (bigSep Finset.univ (opened m ρ) : sProp 𝕄)
      ⊢ iprop((bigSep Finset.univ fun ck : Dev nD × Fin 3 => iprop(∃ κ : ℕ, cellInv EX (plan m ρ) κ (cell ck.2 ck.1)))
        ∗ (bigSep Finset.univ fun ck : Dev nD × Fin 3 => reached EX (cell ck.2 ck.1) 0)
        ∗ bigSep Finset.univ fun c : Dev nD => iprop((bigSep Finset.univ fun k : Fin 3 => atPos EX (cell k c) 0 ∅ 0) ∗ bigSep Finset.univ fun k : Fin 3 => dutyTok EX (cell k c) 0 ())) := by
    unfold opened place
    rw [bigSep_univ_prod, bigSep_univ_prod]
    simp only [bigSep_sep']
    iintro ⟨HI, ⟨Hat, Hr⟩, Ht⟩
    isplitl [HI]; · iexact HI
    isplitl [Hr]; · iexact Hr
    isplitl [Hat] <;> iassumption
  refine hsplit.trans ?_
  iintro ⟨HI, HR, Hk⟩
  ihave HK := (BI.bigSep_exists_pi Finset.univ (fun (ck : Dev nD × Fin 3) (κ : ℕ) => (cellInv EX (plan m ρ) κ (cell ck.2 ck.1) : sProp 𝕄))) $$ HI
  icases HK with ⟨%K, HI⟩
  ihave Hk := (deal (F := F)) $$ Hk
  iapply (with_common (R := common m ρ fun k c => K (c, k)) fun c => share_intro m ρ (fun k c => K (c, k)) c)
  isplitr [Hk]
  · unfold common; rw [bigSep_sep']
    isplitl [HI] <;> iassumption
  iexact Hk

theorem everyone : (bigSep Finset.univ fun c => iprop(Pipeline.ownSems0 (Ix := Unit) (Name := ℕ) (U := UU) (Lvl := ℕ) (Val := Elt F) (τ := τ) ownSem c ∗ unscopedSems0 c ∗ minted m ρ c) : sProp 𝕄)
    ⊢ |={Set.univ}=> bigSep Finset.univ fun c => iprop(∃ K, share m ρ K c) :=
  ((bigSep_mono fun c _ => open_cells m ρ c).trans (bigSep_fupd _ _)).trans (BI.fupd_mono (deal_opened m ρ))

/-! ## What will be paid -/

omit [FloatOps F] in
theorem eq_peer {a b : Dev nD} : peer a = b ↔ a = peer b := ⟨fun h => by rw [← h, peer_peer], fun h => by rw [h, peer_peer]⟩

omit [FloatOps F] in
/-- Only the peer owes anything to a device's cells: a unit to its barrier cell, a copy's credit to its receive cell. -/
theorem owed_to (k : Fin 3) (d c : Dev nD) (hk : k ≠ 1) : owesAll d (cell k c) () = if d = peer c then due k else 0 := by
  unfold owesAll owesCopy
  rw [Pi.add_apply, Finsupp.add_apply, tallyAt_apply, tallyAt_apply]
  by_cases h : d = peer c
  · subst h
    rw [peer_peer, if_pos rfl]
    fin_cases k
    · rw [if_neg (fun h => absurd (cell_eq_iff.mp h.1).1 (by decide)), if_pos ⟨rfl, rfl⟩]; rfl
    · exact absurd rfl hk
    · rw [if_pos ⟨rfl, rfl⟩, if_neg (fun h => absurd (cell_eq_iff.mp h.1).1 (by decide))]; rfl
  · rw [if_neg h, if_neg (fun h' => h (eq_peer.mp (cell_eq_iff.mp h'.1).2.symm)), if_neg (fun h' => h (eq_peer.mp (cell_eq_iff.mp h'.1).2.symm))]

omit [FloatOps F] in
theorem credit_of (k : Fin 3) (c : Dev nD) (hk : k ≠ 1) :
    tallyOn (cell k c) (launchCredit (Pipeline.owing owesAll) 0 (cell k c)) = (tallyAt (cell k c) () (due k) : CellTallies nD τ sig Unit) := by
  unfold tallyAt; refine congrArg _ (Finsupp.ext fun u => ?_); cases u
  rw [Pipeline.launchCredit_owing, Finsupp.single_eq_same, Finset.sum_congr rfl fun d _ => owed_to k d c hk, Finset.sum_ite_eq' Finset.univ (peer c) fun _ => due k,
    if_pos (Finset.mem_univ _)]

omit [FloatOps F] in
theorem credits (c : Dev nD) : (Pipeline.launchCred owesAll c : sProp 𝕄) ⊢ iprop(cred (tallyAt (cell 0 c) () 1) ∗ cred (tallyAt (cell 2 c) () N)) := by
  unfold Pipeline.launchCred
  rw [bigSep_univ_at _ (xsem 0), credit_of 0 c (by decide)]
  refine sep_mono_right ?_
  have h2 := credit_of 2 c (by decide)
  rw [show (N : ℕ) = due 2 from rfl, ← h2]
  exact bigSep_elim (Finset.mem_erase.mpr ⟨show xsem 2 ≠ xsem 0 by decide, Finset.mem_univ _⟩)

/-! ## The run -/

theorem enter (c : Dev nD) :
    iprop(Pipeline.unscopedRestP Pipeline.Prefetch.none cfg0.spec c (fun b => m ((c : Thread nD τ).loc b)) ∗ levAts indices level
        ∗ Pipeline.launchCred owesAll c ∗ prngReg c (ρ c) ∗ iprop(∃ K, share m ρ K c))
      ⊢ |={Set.univ}=> iprop(((∃ K, share m ρ K c) ∗ promised c) ∗ emp) := by
  iintro ⟨-, Hlev, Hcr, -, HS⟩
  ihave Hc := (credits (F := F) c) $$ Hcr
  icases Hc with ⟨H0, H2⟩
  imodintro
  unfold promised
  isplitl
  · isplitl [HS]; · iexact HS
    isplitl [H0]; · iexact H0
    isplitl [H2] <;> iassumption
  · iempintro

theorem begin_at (c : Dev nD) :
    iprop(((∃ K, share m ρ K c) ∗ promised c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = atStart m ρ c from rfl, scopedRest0_eq]
  unfold atStart buffers
  iintro ⟨Hs, -, Hb⟩
  isplitl [Hs] <;> iassumption

theorem end_at (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = atEnd c from rfl, scopedRest0_eq, own_sems, barrier_sem]
  unfold atEnd buffers
  iintro ⟨Hb, Zs, Zr, Zb⟩
  isplitl [Zb]; · iexact Zb
  isplitl [Zs Zr]
  · isplitl [Zs] <;> iassumption
  iexact Hb

theorem staging_waits (c : Dev nD) : (levAts indices level : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The arrays after the run, window by window. -/
def arrEnd (c : Dev nD) (w : Fin cfg0.W) : Buf (Elt F) ((cfg0.win w).arr.view.loc (c : Thread nD τ)) := (dats m ρ 0 c).arrAt w cfg0.N

set_option maxRecDepth 8000 in
theorem run_arrays : θ_run defs (onTc (τ := τ) (main (F := F))) (s₀ m ρ) (fun r =>
    (∀ c : Dev nD, ∀ w : Fin cfg0.W, r.2.mem ((cfg0.win w).arr.view.loc (c : Thread nD τ)) = arrEnd m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) EP defs₀ 𝒱₀ m ρ main
    (hmain := fun _ => rfl)
    (hbody := body_obligation m ρ) (hne := block_pos0) (harr := arr_whole0) (hstage := stage_whole0) (hshare := full_share m ρ)
    (hdistinct := winFacts0.arr_inj)
    (O₀ := owesAll) (howed₀ := fun _ => rfl) (howedN := fun _ => rfl)
    (L := indices) (lv := level) (hL := indices_of_ne) (hwaits := staging_waits m ρ)
    (G := minted m ρ) (G' := fun c => iprop(∃ K, share m ρ K c)) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := everyone m ρ)
    (hA := fun _ _ => rfl) (hpf := fun _ k => k.elim0)
    (X := fun c => iprop((∃ K, share m ρ K c) ∗ promised c)) (Y := fun c => unscopedSems0 c) (Z := fun _ => iprop(emp))
    (hX := enter m ρ) (hin := begin_at m ρ) (hout := end_at m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- Device `c`'s block. -/
abbrev argOf (c : Dev nD) : FVec F S512x4096 .f32 := m ((c : Thread nD τ).loc main_arg0)

theorem blk_eq (c : Dev nD) : blk m ρ c = argOf m c := by
  funext i
  unfold blk
  refine congrArg (argOf m c) (funext fun a => Fin.ext ?_)
  exact Pipeline.Window.rect_emb_val_of_index_zero win0_0 (0 : Fin 1) a (by fin_cases a <;> rfl) i

theorem result_eq (c : Dev nD) : arrEnd m ρ c (1 : Fin 2) = outAt m ρ c := by
  refine (dats m ρ 0 c).arrAt_eq_of_covers (1 : Fin 2) _ (by decide +kernel) fun t hf y => ?_
  rw [eq_pt t]
  refine congrArg (outAt m ρ c) (funext fun a => Fin.ext ?_)
  exact (Pipeline.Window.rect_emb_val_of_index_zero win0_1 pt a (by fin_cases a <;> rfl) y).symm

/-- From any memory with zero counters, at any float values: the run ends, the argument is unchanged, every counter is zero,
    and every device's result array holds the merge of its own descending candidates with its peer's ascending ones. -/
theorem run_main : θ_run defs (onTc (τ := τ) (main (F := F))) ⟨m, fun _ => 0, ρ⟩ (fun r =>
    (∀ c : Dev nD, r.2.mem ((c.tc : Thread nD τ).loc main_v1) = mergeOf (descOf (argOf m c)) (ascOf (argOf m (peer c)))
      ∧ r.2.mem ((c.tc : Thread nD τ).loc main_arg0) = m ((c.tc : Thread nD τ).loc main_arg0)) ∧ r.2.sem = fun _ => 0) :=
  (θ_run defs _ _).mono (fun r h => ⟨fun c => ⟨by
      refine (h.1 c (1 : Fin 2)).trans ?_
      rw [← blk_eq m ρ c, ← blk_eq m ρ (peer c)]
      exact result_eq m ρ c, (h.1 c (0 : Fin 2)).trans ((dats (F := F) m ρ 0 c).arrAt_in (0 : Fin 2) rfl _)⟩, h.2⟩) (run_arrays m ρ)

end Cert.TopK

end
-- ==== Proof.Frames.lean ====
/-
# The frames

Every run of the kernel, of its text at the ideal values and of the reference ends, with the argument unchanged and every
semaphore at zero. The two kernel programs have the same text, so one run over any float values serves both.
-/
module

public import proofs.«01_k».proof.Defs
public import proofs.«01_k».proof.Proof.Gen.Kernel
public import proofs.«01_k».proof.Proof.Gen.ReferenceIdeal.Run
public import proofs.«01_k».proof.Proof.Gen.Pre_spread_KernelIdeal
public import proofs.«01_k».proof.Proof.Gen.Pre_spread_ReferenceIdeal
public import proofs.«01_k».proof.Proof.Launch

@[expose] public section

noncomputable section

namespace Cert.TopK

open Idealize.ShloMosaic Idealize.SL.Sem

theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (run_main m ρ)

/-- The two kernel programs name the same bodies. -/
theorem bodies_eq : Cert.Kernel.defs₀ (F := Bits) = Cert.KernelIdeal.defs₀ (F := Bits) := by
  unfold Cert.Kernel.defs₀ Cert.KernelIdeal.defs₀
  congr 1
  funext ℓ x
  obtain ⟨n, h⟩ := ℓ
  cases n
  · rfl
  · exact absurd h (Nat.not_lt.2 (Nat.le_add_left _ _))
theorem defs_eq : Cert.Kernel.defs (F := Bits) = Cert.KernelIdeal.defs (F := Bits) :=
  congrArg (Pipeline.defs (Cert.KernelIdeal.pcfgs (F := Bits))) bodies_eq

theorem frame_kernel : Cert.quiescent_Kernel (hKernel := Cert.Kernel.Gen.facts) := fun m ρ _ => by
  rw [defs_eq]
  exact frame_any (F := Bits) m ρ

theorem frame_ideal : Cert.quiescent_KernelIdeal (hKernelIdeal := Cert.KernelIdeal.Gen.facts) := fun m ρ _ => frame_any (F := Ideal) m ρ

/-- The reference has no semaphores. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, by
    funext g; rcases g.2 with ⟨i⟩ | ⟨i⟩ <;> exact i.elim0⟩) (Cert.ReferenceIdeal.Value.run (F := Ideal) m ρ)

/-- A precondition on the arguments asks nothing more of these runs. -/
theorem frame_ideal_pre : Cert.quiescent_KernelIdeal_pre_spread_KernelIdeal (hKernelIdeal := Cert.KernelIdeal.Gen.facts)
    (hPre_spread_KernelIdeal := Cert.Pre_spread_KernelIdeal.Gen.facts) := fun m ρ _ => frame_ideal m ρ trivial
theorem frame_reference_pre : Cert.quiescent_ReferenceIdeal_pre_spread_ReferenceIdeal (hReferenceIdeal := Cert.ReferenceIdeal.Gen.facts)
    (hPre_spread_ReferenceIdeal := Cert.Pre_spread_ReferenceIdeal.Gen.facts) := fun m ρ _ => frame_reference m ρ trivial

end Cert.TopK

end
-- ==== Proof.Top.lean ====
/-
# The 16 largest entries, counted

`IsTop x t`: the list `t` holds the 16 largest entries of the finite family `x`, with multiplicity, in descending order. It is
said by counting: a value is at most the `j`-th entry of `t` exactly when more than `j` entries of `x` are at least that value.
So `t` is determined by `x`, the order of the family does not matter, and a list obtained by sorting has the property.
-/
module

public import Mathlib.Data.EReal.Basic
public import Mathlib.Data.Fintype.Card
public import Mathlib.Data.Fintype.Sum
public import Mathlib.Data.Finset.Card
public import Mathlib.Algebra.BigOperators.Group.Finset.Piecewise
public import Mathlib.Data.Fintype.BigOperators
public import Mathlib.Order.Interval.Finset.Fin

@[expose] public section

namespace Cert.TopK

/-- How many entries of the family are at least `v`. -/
noncomputable def atLeast {ι : Type} [Fintype ι] (x : ι → EReal) (v : EReal) : ℕ := (Finset.univ.filter fun i => v ≤ x i).card

def IsTop {ι : Type} [Fintype ι] (x : ι → EReal) (t : Fin 16 → EReal) : Prop :=
  ∀ (v : EReal) (j : Fin 16), v ≤ t j ↔ j.val < atLeast x v

theorem IsTop.unique {ι : Type} [Fintype ι] {x : ι → EReal} {t u : Fin 16 → EReal} (ht : IsTop x t) (hu : IsTop x u) : t = u :=
  funext fun j => eq_of_forall_le_iff fun v => (ht v j).trans (hu v j).symm

theorem IsTop.antitone {ι : Type} [Fintype ι] {x : ι → EReal} {t : Fin 16 → EReal} (ht : IsTop x t) : Antitone t := fun i j hij =>
  (ht (t j) i).mpr (lt_of_le_of_lt hij ((ht (t j) j).mp le_rfl))

/-- Renaming the family's indices changes no count. -/
theorem atLeast_equiv {ι κ : Type} [Fintype ι] [Fintype κ] (e : κ ≃ ι) (x : ι → EReal) (v : EReal) : atLeast (fun k => x (e k)) v = atLeast x v :=
  Finset.card_bij (fun k _ => e k) (fun k hk => by simpa using hk) (fun _ _ _ _ h => e.injective h)
    (fun i hi => ⟨e.symm i, by simpa using hi, by simp⟩)

theorem IsTop.equiv {ι κ : Type} [Fintype ι] [Fintype κ] (e : κ ≃ ι) {x : ι → EReal} {t : Fin 16 → EReal} (ht : IsTop (fun k => x (e k)) t) :
    IsTop x t := fun v j => by rw [ht v j, atLeast_equiv]

theorem IsTop.reindex {ι κ : Type} [Fintype ι] [Fintype κ] (e : κ ≃ ι) {x : ι → EReal} {t : Fin 16 → EReal} (ht : IsTop x t) :
    IsTop (fun k => x (e k)) t := fun v j => by rw [ht v j, atLeast_equiv]

/-- The count over two families together is the sum. -/
theorem atLeast_sum {ι κ : Type} [Fintype ι] [Fintype κ] (x : ι → EReal) (y : κ → EReal) (v : EReal) :
    atLeast (Sum.elim x y) v = atLeast x v + atLeast y v := by
  unfold atLeast
  rw [Finset.card_filter, Finset.card_filter, Finset.card_filter, Fintype.sum_sum_type]
  rfl

/-- A family sorted in descending order: of an antitone family, the entries at least `v` are the first ones. -/
theorem le_iff_of_antitone {n : ℕ} {y : Fin n → EReal} (hy : Antitone y) (v : EReal) (k : Fin n) : v ≤ y k ↔ k.val < atLeast y v := by
  unfold atLeast
  constructor
  · intro h
    have hsub : Finset.Iic k ⊆ Finset.univ.filter fun i => v ≤ y i := fun i hi => by
      simp only [Finset.mem_filter, Finset.mem_univ, true_and]
      exact h.trans (hy (Finset.mem_Iic.mp hi))
    have := Finset.card_le_card hsub
    rw [Fin.card_Iic] at this
    omega
  · intro h
    by_contra hv
    have hsub : (Finset.univ.filter fun i => v ≤ y i) ⊆ Finset.Iio k := fun i hi => by
      simp only [Finset.mem_filter, Finset.mem_univ, true_and] at hi
      rw [Finset.mem_Iio]
      by_contra hk
      exact hv (hi.trans (hy (not_lt.mp hk)))
    have := Finset.card_le_card hsub
    rw [Fin.card_Iio] at this
    omega

/-- So the first 16 entries of a family put in descending order are its 16 largest. -/
theorem isTop_of_sorted {n : ℕ} (hn : 16 ≤ n) (x : Fin n → EReal) (e : Fin n ≃ Fin n) (hy : Antitone fun k => x (e k)) :
    IsTop x fun j => x (e (j.castLE hn)) := fun v j => by
  rw [← atLeast_equiv e]
  exact le_iff_of_antitone hy v (j.castLE hn)

end Cert.TopK
-- ==== Proof.Merge.lean ====
/-
# The bitonic merge of two descending lists

`merge16 a b`: the entrywise maximum of `a` and `b`, then compare-exchange stages at distances 8, 4, 2 and 1. When `a` holds
the 16 largest of one family descending and `b` those of another ascending, the result holds the 16 largest of both together.
A maximum or minimum is at least `v` when one or both of its operands are, so each threshold `v` can be followed by itself:
the first list starts with some `p` entries at least `v`, the second ends with some `q`, and the finitely many cases decide.
-/
module

public import proofs.«01_k».proof.Proof.Top

@[expose] public section

namespace Cert.TopK

/-- One compare-exchange stage at distance `d`, with `up` taking the place of the larger and `dn` of the smaller. -/
def stage {α : Type} (up dn : α → α → α) (d : ℕ) (f : ℕ → α) (i : ℕ) : α :=
  if i / d % 2 = 0 then up (f i) (f (i + d)) else dn (f (i - d)) (f i)

def mergeWith {α : Type} (up dn : α → α → α) (f : ℕ → α) : ℕ → α :=
  stage up dn 1 (stage up dn 2 (stage up dn 4 (stage up dn 8 f)))

theorem stage_map {α β : Type} (g : α → β) {up dn : α → α → α} {up' dn' : β → β → β} (hu : ∀ a b, g (up a b) = up' (g a) (g b))
    (hd : ∀ a b, g (dn a b) = dn' (g a) (g b)) (d : ℕ) (f : ℕ → α) : (fun i => g (stage up dn d f i)) = stage up' dn' d fun i => g (f i) := by
  funext i
  unfold stage
  split
  · exact hu _ _
  · exact hd _ _

theorem mergeWith_map {α β : Type} (g : α → β) {up dn : α → α → α} {up' dn' : β → β → β} (hu : ∀ a b, g (up a b) = up' (g a) (g b))
    (hd : ∀ a b, g (dn a b) = dn' (g a) (g b)) (f : ℕ → α) (i : ℕ) : g (mergeWith up dn f i) = mergeWith up' dn' (fun i => g (f i)) i := by
  unfold mergeWith
  have h := stage_map g hu hd 1 (stage up dn 2 (stage up dn 4 (stage up dn 8 f)))
  rw [stage_map g hu hd 2, stage_map g hu hd 4, stage_map g hu hd 8] at h
  exact congrFun h i

/-- The finitely many cases: the first `p` marked in one list and the last `q` in the other. -/
theorem mergeWith_marks : ∀ p < 17, ∀ q < 17, ∀ j < 16,
    mergeWith or and (fun i => decide (i < p) || decide (15 - i < q)) j = decide (j < p + q) := by decide +kernel

/-- A list of 16 as a function of any number, the first entry past the end. -/
def ext16 (t : Fin 16 → EReal) (i : ℕ) : EReal := if h : i < 16 then t ⟨i, h⟩ else t 0

noncomputable def merge16 (a b : Fin 16 → EReal) (j : Fin 16) : EReal := mergeWith max min (fun i => max (ext16 a i) (ext16 b i)) j.val

theorem mark_congr {f g : ℕ → Bool} (h : ∀ i < 16, f i = g i) (j : ℕ) (hj : j < 16) : mergeWith or and f j = mergeWith or and g j := by
  have hs (d : ℕ) (hd : d = 1 ∨ d = 2 ∨ d = 4 ∨ d = 8) {f g : ℕ → Bool} (h : ∀ i < 16, f i = g i) (i : ℕ) (hi : i < 16) :
      stage or and d f i = stage or and d g i := by
    unfold stage
    split
    · rw [h i hi, h (i + d) (by rcases hd with rfl | rfl | rfl | rfl <;> omega)]
    · rw [h i hi, h (i - d) (by omega)]
  exact hs 1 (by simp) (hs 2 (by simp) (hs 4 (by simp) (hs 8 (by simp) h))) j hj

theorem IsTop.merge {ι κ : Type} [Fintype ι] [Fintype κ] {x : ι → EReal} {y : κ → EReal} {a b : Fin 16 → EReal}
    (ha : IsTop x a) (hb : IsTop y fun j => b j.rev) : IsTop (Sum.elim x y) (merge16 a b) := fun v j => by
  rw [atLeast_sum]
  have hg : decide (v ≤ merge16 a b j) = mergeWith or and (fun i => decide (v ≤ max (ext16 a i) (ext16 b i))) j.val :=
    mergeWith_map (fun w => decide (v ≤ w)) (fun s t => by simp [le_max_iff, Bool.decide_or]) (fun s t => by simp [le_min_iff, Bool.decide_and]) _ _
  have hp : ∀ i < 16, decide (v ≤ max (ext16 a i) (ext16 b i))
      = (decide (i < min 16 (atLeast x v)) || decide (15 - i < min 16 (atLeast y v))) := fun i hi => by
    have h1 := ha v ⟨i, hi⟩
    have h2 := hb v (Fin.rev ⟨i, hi⟩)
    dsimp only at h1 h2
    rw [Fin.rev_rev] at h2
    have e : (Fin.rev (⟨i, hi⟩ : Fin 16)).val = 15 - i := by simp [Fin.val_rev]
    rw [e] at h2
    unfold ext16
    rw [dif_pos hi, dif_pos hi, ← Bool.decide_or, decide_eq_decide, le_max_iff, h1, h2]
    have : i < 16 := hi
    omega
  rw [mark_congr hp j.val j.isLt, mergeWith_marks _ (by omega) _ (by omega) _ j.isLt, decide_eq_decide] at hg
  rw [hg]
  have := j.isLt
  omega

end Cert.TopK
-- ==== Proof.MergeRead.lean ====
/-
# What the kernel's merge computes, row by row

`mergeOf l r` is the entrywise maximum followed by four compare-exchange stages, each cutting the row in groups of two halves
and putting the larger entries in the first half and the smaller in the second. At the exact reals a row of it is `merge16` of
the same rows of `l` and `r`.
-/
module

public import proofs.«01_k».proof.Proof.Protocol
public import proofs.«01_k».proof.Proof.Merge
public import Idealize.ShloMosaic.Lib.Pointwise

@[expose] public section

noncomputable section

namespace Cert.TopK

open Cert.KernelIdeal Cert.KernelIdeal.Gen

open Idealize.ShloMosaic

/-- The stage at distance 8. -/
def stage8 (x : FVec Ideal S512x16 .f32) : FVec Ideal S512x16 .f32 :=
  let y : FVec Ideal S512x1x2x8 .f32 := shapeCast S512x1x2x8 x shapeCasts_S512x16_S512x1x2x8
  let a : FVec Ideal S512x1x8 .f32 := shapeCast S512x1x8 (extractStridedSlice S512x1x1x8 ![0, 0, 0, 0] y slices_S512x1x2x8_o0_0_0_0_S512x1x1x8) shapeCasts_S512x1x1x8_S512x1x8
  let b : FVec Ideal S512x1x8 .f32 := shapeCast S512x1x8 (extractStridedSlice S512x1x1x8 ![0, 0, 1, 0] y slices_S512x1x2x8_o0_0_1_0_S512x1x1x8) shapeCasts_S512x1x1x8_S512x1x8
  shapeCast S512x16 (concatenate S512x1x2x8 2 [⟨S512x1x1x8, shapeCast S512x1x1x8 (maximumf a b) shapeCasts_S512x1x8_S512x1x1x8⟩,
    ⟨S512x1x1x8, shapeCast S512x1x1x8 (minimumf a b) shapeCasts_S512x1x8_S512x1x1x8⟩] concatenates_S512x1x1x8_S512x1x1x8_S512x1x2x8_d2) shapeCasts_S512x1x2x8_S512x16

theorem stage8_apply (x : FVec Ideal S512x16 .f32) (i : Fin 512) (j : Fin 16) :
    stage8 x (ix2 i j) = stage max min 8 (ext16 fun k => x (ix2 i k)) j.val := by
  pointwise [stage8]
  fin_cases j <;> simp [stage, ext16]

/-- The stage at distance 4. -/
def stage4 (x : FVec Ideal S512x16 .f32) : FVec Ideal S512x16 .f32 :=
  let y : FVec Ideal S512x2x2x4 .f32 := shapeCast S512x2x2x4 x shapeCasts_S512x16_S512x2x2x4
  let a : FVec Ideal S512x2x4 .f32 := shapeCast S512x2x4 (extractStridedSlice S512x2x1x4 ![0, 0, 0, 0] y slices_S512x2x2x4_o0_0_0_0_S512x2x1x4) shapeCasts_S512x2x1x4_S512x2x4
  let b : FVec Ideal S512x2x4 .f32 := shapeCast S512x2x4 (extractStridedSlice S512x2x1x4 ![0, 0, 1, 0] y slices_S512x2x2x4_o0_0_1_0_S512x2x1x4) shapeCasts_S512x2x1x4_S512x2x4
  shapeCast S512x16 (concatenate S512x2x2x4 2 [⟨S512x2x1x4, shapeCast S512x2x1x4 (maximumf a b) shapeCasts_S512x2x4_S512x2x1x4⟩,
    ⟨S512x2x1x4, shapeCast S512x2x1x4 (minimumf a b) shapeCasts_S512x2x4_S512x2x1x4⟩] concatenates_S512x2x1x4_S512x2x1x4_S512x2x2x4_d2) shapeCasts_S512x2x2x4_S512x16

theorem stage4_apply (x : FVec Ideal S512x16 .f32) (i : Fin 512) (j : Fin 16) :
    stage4 x (ix2 i j) = stage max min 4 (ext16 fun k => x (ix2 i k)) j.val := by
  pointwise [stage4]
  fin_cases j <;> simp [stage, ext16]

/-- The stage at distance 2. -/
def stage2 (x : FVec Ideal S512x16 .f32) : FVec Ideal S512x16 .f32 :=
  let y : FVec Ideal S512x4x2x2 .f32 := shapeCast S512x4x2x2 x shapeCasts_S512x16_S512x4x2x2
  let a : FVec Ideal S512x4x2 .f32 := shapeCast S512x4x2 (extractStridedSlice S512x4x1x2 ![0, 0, 0, 0] y slices_S512x4x2x2_o0_0_0_0_S512x4x1x2) shapeCasts_S512x4x1x2_S512x4x2
  let b : FVec Ideal S512x4x2 .f32 := shapeCast S512x4x2 (extractStridedSlice S512x4x1x2 ![0, 0, 1, 0] y slices_S512x4x2x2_o0_0_1_0_S512x4x1x2) shapeCasts_S512x4x1x2_S512x4x2
  shapeCast S512x16 (concatenate S512x4x2x2 2 [⟨S512x4x1x2, shapeCast S512x4x1x2 (maximumf a b) shapeCasts_S512x4x2_S512x4x1x2⟩,
    ⟨S512x4x1x2, shapeCast S512x4x1x2 (minimumf a b) shapeCasts_S512x4x2_S512x4x1x2⟩] concatenates_S512x4x1x2_S512x4x1x2_S512x4x2x2_d2) shapeCasts_S512x4x2x2_S512x16

theorem stage2_apply (x : FVec Ideal S512x16 .f32) (i : Fin 512) (j : Fin 16) :
    stage2 x (ix2 i j) = stage max min 2 (ext16 fun k => x (ix2 i k)) j.val := by
  pointwise [stage2]
  fin_cases j <;> simp [stage, ext16]

/-- The stage at distance 1. -/
def stage1 (x : FVec Ideal S512x16 .f32) : FVec Ideal S512x16 .f32 :=
  let y : FVec Ideal S512x8x2x1 .f32 := shapeCast S512x8x2x1 x shapeCasts_S512x16_S512x8x2x1
  let a : FVec Ideal S512x8x1 .f32 := shapeCast S512x8x1 (extractStridedSlice S512x8x1x1 ![0, 0, 0, 0] y slices_S512x8x2x1_o0_0_0_0_S512x8x1x1) shapeCasts_S512x8x1x1_S512x8x1
  let b : FVec Ideal S512x8x1 .f32 := shapeCast S512x8x1 (extractStridedSlice S512x8x1x1 ![0, 0, 1, 0] y slices_S512x8x2x1_o0_0_1_0_S512x8x1x1) shapeCasts_S512x8x1x1_S512x8x1
  shapeCast S512x16 (concatenate S512x8x2x1 2 [⟨S512x8x1x1, shapeCast S512x8x1x1 (maximumf a b) shapeCasts_S512x8x1_S512x8x1x1⟩,
    ⟨S512x8x1x1, shapeCast S512x8x1x1 (minimumf a b) shapeCasts_S512x8x1_S512x8x1x1⟩] concatenates_S512x8x1x1_S512x8x1x1_S512x8x2x1_d2) shapeCasts_S512x8x2x1_S512x16

theorem stage1_apply (x : FVec Ideal S512x16 .f32) (i : Fin 512) (j : Fin 16) :
    stage1 x (ix2 i j) = stage max min 1 (ext16 fun k => x (ix2 i k)) j.val := by
  pointwise [stage1]
  fin_cases j <;> simp [stage, ext16]

theorem mergeOf_eq (l r : FVec Ideal S512x16 .f32) : mergeOf l r = stage1 (stage2 (stage4 (stage8 (maximumf l r)))) := rfl

/-- Past the end of the list nothing is read by a stage at one of the four distances. -/
theorem stage_congr {f g : ℕ → EReal} (h : ∀ i < 16, f i = g i) (d : ℕ) (hd : d = 1 ∨ d = 2 ∨ d = 4 ∨ d = 8) (i : ℕ) (hi : i < 16) :
    stage max min d f i = stage max min d g i := by
  unfold stage
  split
  · rw [h i hi, h (i + d) (by rcases hd with rfl | rfl | rfl | rfl <;> omega)]
  · rw [h i hi, h (i - d) (by omega)]

theorem mergeOf_apply (l r : FVec Ideal S512x16 .f32) (i : Fin 512) (j : Fin 16) :
    mergeOf l r (ix2 i j) = merge16 (fun k => l (ix2 i k)) (fun k => r (ix2 i k)) j := by
  rw [mergeOf_eq, stage1_apply]
  refine stage_congr (fun a ha => ?_) 1 (by simp) j.val j.isLt
  rw [ext16, dif_pos ha, stage2_apply]
  refine stage_congr (fun a ha => ?_) 2 (by simp) a ha
  rw [ext16, dif_pos ha, stage4_apply]
  refine stage_congr (fun a ha => ?_) 4 (by simp) a ha
  rw [ext16, dif_pos ha, stage8_apply]
  refine stage_congr (fun a ha => ?_) 8 (by simp) a ha
  rw [ext16, dif_pos ha, ext16, dif_pos ha, ext16, dif_pos ha]
  rfl

end Cert.TopK

end
-- ==== Proof.Rounds.lean ====
/-
# Taking the maximum out, round after round

`rnd k g`: the maximum of the family `g` after `k` rounds, each replacing every entry equal to the maximum by minus infinity.
Every round removes one *distinct* value, so `rnd k g` is at least `v` exactly when more than `k` distinct values of `g` are.

`rounds_lanes`: three rounds down every lane, then sixteen over the lanes' results, give the 16 largest entries of the whole
family — when these have no tie and no lane holds more than three of them. Ties at minus infinity and entries equal to it do
not matter.
-/
module

public import proofs.«01_k».proof.Proof.Top
public import Mathlib.Data.Finset.Lattice.Fold
public import Mathlib.Data.Finset.Prod
public import Mathlib.Data.Fintype.Prod

@[expose] public section

namespace Cert.TopK

variable {ι : Type} [Fintype ι]

noncomputable def peel (g : ι → EReal) (i : ι) : EReal := if g i = Finset.univ.sup g then ⊥ else g i

noncomputable def rnd (k : ℕ) (g : ι → EReal) : EReal := Finset.univ.sup (peel^[k] g)

/-- Renaming the family's indices changes no round. -/
theorem rnd_equiv {κ : Type} [Fintype κ] (e : κ ≃ ι) (k : ℕ) : ∀ g : ι → EReal, rnd k (fun q => g (e q)) = rnd k g := by
  have hsup (g : ι → EReal) : (Finset.univ.sup fun q => g (e q)) = Finset.univ.sup g := by
    refine le_antisymm (Finset.sup_le fun q _ => Finset.le_sup (f := g) (Finset.mem_univ (e q))) (Finset.sup_le fun i _ => ?_)
    simpa using Finset.le_sup (f := fun q => g (e q)) (Finset.mem_univ (e.symm i))
  induction k with
  | zero => exact hsup
  | succ k ih =>
    intro g
    have hp : peel (fun q => g (e q)) = fun q => peel g (e q) := by
      funext q
      unfold peel
      rw [hsup]
    show rnd k (peel fun q => g (e q)) = rnd k (peel g)
    rw [hp, ih]

/-- The distinct values of the family that are at least `v`. -/
noncomputable def valuesFrom (g : ι → EReal) (v : EReal) : Finset EReal := (Finset.univ.image g).filter fun w => v ≤ w

theorem mem_valuesFrom (g : ι → EReal) (v w : EReal) : w ∈ valuesFrom g v ↔ (∃ i, g i = w) ∧ v ≤ w := by
  simp [valuesFrom]

theorem rnd_succ (k : ℕ) (g : ι → EReal) : rnd (k + 1) g = rnd k (peel g) := rfl

theorem peel_eq_of_ne_bot {g : ι → EReal} {i : ι} (h : peel g i ≠ ⊥) : g i ≠ Finset.univ.sup g ∧ peel g i = g i := by
  unfold peel at h ⊢
  split at h
  · exact absurd rfl h
  · rename_i hne
    exact ⟨hne, if_neg hne⟩

theorem exists_eq_sup {g : ι → EReal} {v : EReal} (hv : ⊥ < v) (h : v ≤ Finset.univ.sup g) : ∃ i, g i = Finset.univ.sup g := by
  obtain ⟨i, _, _⟩ := (Finset.le_sup_iff hv).mp h
  obtain ⟨k, _, hk⟩ := Finset.exists_mem_eq_sup Finset.univ ⟨i, Finset.mem_univ i⟩ g
  exact ⟨k, hk.symm⟩

theorem valuesFrom_peel (g : ι → EReal) {v : EReal} (hv : ⊥ < v) : valuesFrom (peel g) v = (valuesFrom g v).erase (Finset.univ.sup g) := by
  ext w
  rw [Finset.mem_erase, mem_valuesFrom, mem_valuesFrom]
  constructor
  · rintro ⟨⟨i, rfl⟩, hw⟩
    obtain ⟨hne, he⟩ := peel_eq_of_ne_bot (hv.trans_le hw).ne'
    exact ⟨he ▸ hne, ⟨i, he.symm⟩, hw⟩
  · rintro ⟨hne, ⟨i, rfl⟩, hw⟩
    exact ⟨⟨i, if_neg hne⟩, hw⟩

theorem le_rnd_iff (k : ℕ) : ∀ (g : ι → EReal) {v : EReal}, ⊥ < v → (v ≤ rnd k g ↔ k < (valuesFrom g v).card) := by
  induction k with
  | zero =>
    intro g v hv
    rw [Finset.card_pos]
    constructor
    · intro h
      exact ⟨_, (mem_valuesFrom g v _).mpr ⟨exists_eq_sup hv h, h⟩⟩
    · rintro ⟨w, hw⟩
      obtain ⟨⟨i, rfl⟩, hle⟩ := (mem_valuesFrom g v w).mp hw
      exact hle.trans (Finset.le_sup (f := g) (Finset.mem_univ i))
  | succ k ih =>
    intro g v hv
    rw [rnd_succ, ih _ hv, valuesFrom_peel g hv]
    by_cases h : v ≤ Finset.univ.sup g
    · rw [Finset.card_erase_of_mem ((mem_valuesFrom g v _).mpr ⟨exists_eq_sup hv h, h⟩)]
      omega
    · have he : valuesFrom g v = ∅ := by
        rw [Finset.eq_empty_iff_forall_notMem]
        intro w hw
        obtain ⟨⟨i, rfl⟩, hle⟩ := (mem_valuesFrom g v w).mp hw
        exact h (hle.trans (Finset.le_sup (f := g) (Finset.mem_univ i)))
      simp [he]

/-- What a round finds is an entry of the family. -/
theorem rnd_mem (k : ℕ) : ∀ g : ι → EReal, ⊥ < rnd k g → ∃ i, g i = rnd k g := by
  induction k with
  | zero => exact fun g h => exists_eq_sup h le_rfl
  | succ k ih =>
    intro g h
    obtain ⟨i, hi⟩ := ih (peel g) h
    have hne : peel g i ≠ ⊥ := by rw [hi]; exact h.ne'
    exact ⟨i, (peel_eq_of_ne_bot hne).2.symm.trans hi⟩

/-- An entry with fewer than `n` distinct values above it is found within `n` rounds. -/
theorem exists_rnd_eq {g : ι → EReal} {n : ℕ} (i : ι) (hi : ⊥ < g i) (hn : (valuesFrom g (g i)).card ≤ n) : ∃ k < n, rnd k g = g i := by
  have hm : g i ∈ valuesFrom g (g i) := (mem_valuesFrom g _ _).mpr ⟨⟨i, rfl⟩, le_rfl⟩
  have hpos := Finset.card_pos.mpr ⟨_, hm⟩
  refine ⟨(valuesFrom g (g i)).card - 1, by omega, ?_⟩
  have hle : g i ≤ rnd ((valuesFrom g (g i)).card - 1) g := (le_rnd_iff _ g hi).mpr (by omega)
  refine le_antisymm ?_ hle
  by_contra hlt
  rw [not_le] at hlt
  have h2 := (le_rnd_iff _ g (hi.trans hlt)).mp le_rfl
  have hss : valuesFrom g (rnd ((valuesFrom g (g i)).card - 1) g) ⊂ valuesFrom g (g i) := by
    rw [Finset.ssubset_iff_of_subset]
    · exact ⟨g i, hm, fun h => absurd ((mem_valuesFrom g _ _).mp h).2 (not_le.mpr hlt)⟩
    · intro w hw
      rw [mem_valuesFrom] at hw ⊢
      exact ⟨hw.1, hle.trans hw.2⟩
  have := Finset.card_lt_card hss
  omega

theorem card_valuesFrom_le (g : ι → EReal) (v : EReal) : (valuesFrom g v).card ≤ atLeast g v := by
  classical
  have h : valuesFrom g v ⊆ (Finset.univ.filter fun i => v ≤ g i).image g := fun w hw => by
    obtain ⟨⟨i, rfl⟩, hle⟩ := (mem_valuesFrom g v w).mp hw
    exact Finset.mem_image_of_mem g (by simpa using hle)
  exact (Finset.card_le_card h).trans Finset.card_image_le

/-- Three rounds down every lane, then sixteen rounds over what they found. -/
theorem rounds_lanes {ρ «λ» : Type} [Fintype ρ] [Fintype «λ»] (x : ρ → «λ» → EReal) (s : Fin 16 → EReal)
    (hs : IsTop (fun p : ρ × «λ» => x p.1 p.2) s) (hmem : ∀ i, ∃ r l, x r l = s i)
    (hdist : ∀ i j : Fin 16, i.val + 1 = j.val → s j < s i ∨ s i = ⊥)
    (hlane : ∀ l, (Finset.univ.filter fun r => s 15 ≤ x r l ∧ ⊥ < x r l).card ≤ 3) (j : Fin 16) :
    rnd j.val (fun q : Fin 3 × «λ» => rnd q.1.val fun r => x r q.2) = s j := by
  classical
  refine eq_of_forall_le_iff fun v => ?_
  rcases eq_bot_or_bot_lt v with rfl | hv
  · simp
  have hanti := hs.antitone
  rw [le_rnd_iff _ _ hv]
  constructor
  · intro h
    rw [hs v j]
    refine h.trans_le (le_trans (Finset.card_le_card ?_) (card_valuesFrom_le _ v))
    intro w hw
    obtain ⟨⟨q, rfl⟩, hle⟩ := (mem_valuesFrom _ v w).mp hw
    obtain ⟨r, hr⟩ := rnd_mem _ _ (hv.trans_le hle)
    exact (mem_valuesFrom _ _ _).mpr ⟨⟨(r, q.2), hr⟩, hle⟩
  · intro h
    have hge : ∀ i ≤ j, v ≤ s i := fun i hi => h.trans (hanti hi)
    have hinj : Set.InjOn s (Finset.Iic j : Finset (Fin 16)) := by
      have hlt : ∀ i k : Fin 16, i < k → k ≤ j → s k < s i := fun i k hik hk => by
        have hi1 : i.val + 1 < 16 := lt_of_le_of_lt (Nat.succ_le_of_lt hik) k.isLt
        rcases hdist i ⟨i.val + 1, hi1⟩ rfl with hd | hd
        · exact (hanti (show (⟨i.val + 1, hi1⟩ : Fin 16) ≤ k from Nat.succ_le_of_lt hik)).trans_lt hd
        · exact absurd hd (hv.trans_le (hge i (hik.le.trans hk))).ne'
      intro i hi k hk he
      rcases lt_trichotomy i k with hik | hik | hik
      · exact absurd he (hlt i k hik (by simpa using hk)).ne'
      · exact hik
      · exact absurd he (hlt k i hik (by simpa using hi)).ne
    have hsub : (Finset.Iic j).image s ⊆ valuesFrom (fun q : Fin 3 × «λ» => rnd q.1.val fun r => x r q.2) v := fun w hw => by
      obtain ⟨i, hi, rfl⟩ := Finset.mem_image.mp hw
      have hij : i ≤ j := Finset.mem_Iic.mp hi
      have hpos := hv.trans_le (hge i hij)
      obtain ⟨r, l, hrl⟩ := hmem i
      rw [← hrl] at hpos
      have hn : (valuesFrom (fun r => x r l) (x r l)).card ≤ 3 := by
        refine (card_valuesFrom_le _ _).trans (le_trans (Finset.card_le_card ?_) (hlane l))
        intro r' hr'
        simp only [Finset.mem_filter, Finset.mem_univ, true_and] at hr' ⊢
        refine ⟨le_trans ?_ hr', hpos.trans_le hr'⟩
        rw [hrl]
        exact hanti (Fin.le_last i)
      obtain ⟨k, hk, he⟩ := exists_rnd_eq (g := fun r => x r l) r hpos hn
      exact (mem_valuesFrom _ _ _).mpr ⟨⟨(⟨k, hk⟩, l), he.trans hrl⟩, hge i hij⟩
    have := Finset.card_le_card hsub
    rw [Finset.card_image_of_injOn hinj, Fin.card_Iic] at this
    omega

end Cert.TopK
-- ==== Proof.BlockRead.lean ====
/-
# What one device computes from its block, row by row

The kernel takes the maximum out of every lane three times and of the 384 results sixteen times. Every one of these sixteen
rounds is the same two operations, `mask` and `col`, so the candidates of a block are `col` of `mask` applied again and again
to the lanes' results. At the exact reals a row of them is `rnd` of that row.
-/
module

public import proofs.«01_k».proof.Proof.Protocol
public import proofs.«01_k».proof.Proof.Rounds
public import Idealize.ShloMosaic.Lib.Pointwise
public import Idealize.ShloMosaic.Lib.Pipeline.ValueKit.Tiles

@[expose] public section

noncomputable section

namespace Cert.TopK

open Cert.KernelIdeal Cert.KernelIdeal.Gen

open Idealize.ShloMosaic

/-! ## Rounds over the lanes' results -/

/-- The maximum of every row, as a column. -/
def col (m : FVec Ideal S512x384 .f32) : FVec Ideal S512x1 .f32 :=
  shapeCast S512x1 (multiReduction .maximumf [1] S512 m 0xFF800000#32 reduces_S512x384_S512 (.inl rfl) rfl) shapeCasts_S512_S512x1

/-- Every entry equal to its row's maximum replaced by minus infinity. -/
def mask (m : FVec Ideal S512x384 .f32) : FVec Ideal S512x384 .f32 :=
  select (cmpf .oeq m (broadcastTo S512x384 (col m) broadcasts_S512x1_S512x384)) (broadcast S512x384 (Scalar.ofBits .f32 0xFF800000#32)) m

theorem minus_infinity : Ideal.ofBits .f32 0xFF800000#32 = ⊥ := by simp [Ideal.ofBits, Ideal.ieee]

theorem fold_max_eq_sup {ι : Type} [Fintype ι] (g : ι → EReal) :
    Finset.univ.fold max (Ideal.ofBits .f32 0xFF800000#32) g = Finset.univ.sup g := by rw [minus_infinity]; rfl

theorem col_apply (m : FVec Ideal S512x384 .f32) (i : Fin 512) : col m (ix2 i 0) = Finset.univ.sup fun l => m (ix2 i l) := by
  pointwise [col]
  exact fold_max_eq_sup _

theorem mask_apply (m : FVec Ideal S512x384 .f32) (i : Fin 512) : (fun l => mask m (ix2 i l)) = peel fun l => m (ix2 i l) := by
  funext l
  pointwise [mask, col]
  rw [fold_max_eq_sup, minus_infinity]
  rfl

theorem mask_iterate_apply (k : ℕ) (m : FVec Ideal S512x384 .f32) (i : Fin 512) :
    (fun l => (mask^[k] m) (ix2 i l)) = peel^[k] fun l => m (ix2 i l) := by
  induction k generalizing m with
  | zero => rfl
  | succ k ih => rw [Function.iterate_succ_apply, Function.iterate_succ_apply, ih, mask_apply]

/-- The `k`-th candidate of every row. -/
def cand (x : FVec Ideal S512x4096 .f32) (k : Fin 16) : FVec Ideal S512x1 .f32 := col (mask^[k.val] (k0_pay2 x))

theorem cand_apply (x : FVec Ideal S512x4096 .f32) (k : Fin 16) (i : Fin 512) :
    cand x k (ix2 i 0) = rnd k.val fun l => k0_pay2 (F := Ideal) x (ix2 i l) := by
  rw [cand, col_apply, mask_iterate_apply]
  rfl

/-! ## The two lists of candidates -/

/-- Sixteen columns side by side. -/
def sideBySide (u : Fin 16 → FVec Ideal S512x1 .f32) : FVec Ideal S512x16 .f32 :=
  concatenate S512x16 1 (List.ofFn fun n : Fin 16 => ⟨S512x1, u n⟩) concatenates_S512x1_S512x1_S512x1_S512x1_S512x1_S512x1_S512x1_S512x1_S512x1_S512x1_S512x1_S512x1_S512x1_S512x1_S512x1_S512x1_S512x16_d1

theorem sideBySide_apply (u : Fin 16 → FVec Ideal S512x1 .f32) (i : Fin 512) (j : Fin 16) : sideBySide u (ix2 i j) = u j (ix2 i 0) := by
  refine concatenate_ofFn_unit_eq (1 : Fin 2) u _ (ix2 i j) _ rfl rfl fun n p hn h0 hb => ?_
  have hj : j = n := Fin.ext hn
  have hp : p = ix2 i 0 := by
    funext b
    fin_cases b
    · exact Fin.ext (hb 0 (by decide))
    · exact Fin.ext h0
  rw [hj, hp]

theorem sideBySide_list (a0 a1 a2 a3 a4 a5 a6 a7 a8 a9 a10 a11 a12 a13 a14 a15 : FVec Ideal S512x1 .f32) :
    concatenate S512x16 1 [⟨S512x1, a0⟩, ⟨S512x1, a1⟩, ⟨S512x1, a2⟩, ⟨S512x1, a3⟩, ⟨S512x1, a4⟩, ⟨S512x1, a5⟩, ⟨S512x1, a6⟩, ⟨S512x1, a7⟩, ⟨S512x1, a8⟩, ⟨S512x1, a9⟩, ⟨S512x1, a10⟩, ⟨S512x1, a11⟩, ⟨S512x1, a12⟩, ⟨S512x1, a13⟩, ⟨S512x1, a14⟩, ⟨S512x1, a15⟩] concatenates_S512x1_S512x1_S512x1_S512x1_S512x1_S512x1_S512x1_S512x1_S512x1_S512x1_S512x1_S512x1_S512x1_S512x1_S512x1_S512x1_S512x16_d1
      = sideBySide ![a0, a1, a2, a3, a4, a5, a6, a7, a8, a9, a10, a11, a12, a13, a14, a15] := rfl

theorem rev_list {α : Type} (a0 a1 a2 a3 a4 a5 a6 a7 a8 a9 a10 a11 a12 a13 a14 a15 : α) :
    ![a15, a14, a13, a12, a11, a10, a9, a8, a7, a6, a5, a4, a3, a2, a1, a0] = fun k : Fin 16 => ![a0, a1, a2, a3, a4, a5, a6, a7, a8, a9, a10, a11, a12, a13, a14, a15] k.rev := by
  funext k
  fin_cases k <;> rfl

theorem iterate_list {α β : Type} (c : α → β) (f : α → α) (z : α) :
    ![c z, c (f z), c (f (f z)), c (f (f (f z))), c (f (f (f (f z)))), c (f (f (f (f (f z))))), c (f (f (f (f (f (f z)))))), c (f (f (f (f (f (f (f z))))))), c (f (f (f (f (f (f (f (f z)))))))), c (f (f (f (f (f (f (f (f (f z))))))))), c (f (f (f (f (f (f (f (f (f (f z)))))))))), c (f (f (f (f (f (f (f (f (f (f (f z))))))))))), c (f (f (f (f (f (f (f (f (f (f (f (f z)))))))))))), c (f (f (f (f (f (f (f (f (f (f (f (f (f z))))))))))))), c (f (f (f (f (f (f (f (f (f (f (f (f (f (f z)))))))))))))), c (f (f (f (f (f (f (f (f (f (f (f (f (f (f (f z)))))))))))))))]
      = fun k : Fin 16 => c (f^[k.val] z) := by
  funext k
  fin_cases k <;> rfl

/-! The kernel's rounds are `mask` and `col`, first over the lanes' results, then over each round's own. -/

theorem round0 (x : FVec Ideal S512x4096 .f32) : k0_pay3 (F := Ideal) x = col (k0_pay2 x) ∧ k0_pay4 (F := Ideal) x = mask (k0_pay2 x) := ⟨rfl, rfl⟩

theorem round1 (x : FVec Ideal S512x4096 .f32) : k0_pay6 (F := Ideal) (k0_pay5 (F := Ideal) x) = col (k0_pay4 (F := Ideal) x)
    ∧ k0_pay7 (F := Ideal) (k0_pay4 (F := Ideal) x) (k0_pay5 (F := Ideal) x) = mask (k0_pay4 (F := Ideal) x) := ⟨rfl, rfl⟩

section

variable (m : FVec Ideal S512x384 .f32) (t : FVec Ideal S512 .f32)

theorem round2 : k0_pay8 m t = col (k0_pay7 m t) ∧ k0_pay9 m t = mask (k0_pay7 m t) := ⟨rfl, rfl⟩
theorem round3 : k0_pay10 m t = col (k0_pay9 m t) ∧ k0_pay11 m t = mask (k0_pay9 m t) := ⟨rfl, rfl⟩
theorem round4 : k0_pay12 m t = col (k0_pay11 m t) ∧ k0_pay13 m t = mask (k0_pay11 m t) := ⟨rfl, rfl⟩
theorem round5 : k0_pay14 m t = col (k0_pay13 m t) ∧ k0_pay15 m t = mask (k0_pay13 m t) := ⟨rfl, rfl⟩
theorem round6 : k0_pay16 m t = col (k0_pay15 m t) ∧ k0_pay17 m t = mask (k0_pay15 m t) := ⟨rfl, rfl⟩
theorem round7 : k0_pay18 m t = col (k0_pay17 m t) ∧ k0_pay19 m t = mask (k0_pay17 m t) := ⟨rfl, rfl⟩

theorem round8 : k0_pay20 m t = col (k0_pay19 m t)
    ∧ k0_pay22 (k0_pay19 m t) (k0_pay21 m t) (Scalar.ofBits .f32 0xFF800000#32) = mask (k0_pay19 m t) := ⟨rfl, rfl⟩

end

section

variable (m : FVec Ideal S512x384 .f32) (e : IVec S512x384 1) (b : Ideal .f32)

theorem round9 : k0_pay23 m e b = col (k0_pay22 m e b) ∧ k0_pay24 m e b = mask (k0_pay22 m e b) := ⟨rfl, rfl⟩
theorem round10 : k0_pay25 m e b = col (k0_pay24 m e b) ∧ k0_pay26 m e b = mask (k0_pay24 m e b) := ⟨rfl, rfl⟩
theorem round11 : k0_pay27 m e b = col (k0_pay26 m e b) ∧ k0_pay28 m e b = mask (k0_pay26 m e b) := ⟨rfl, rfl⟩
theorem round12 : k0_pay29 m e b = col (k0_pay28 m e b) ∧ k0_pay30 m e b = mask (k0_pay28 m e b) := ⟨rfl, rfl⟩
theorem round13 : k0_pay31 m e b = col (k0_pay30 m e b) ∧ k0_pay32 m e b = mask (k0_pay30 m e b) := ⟨rfl, rfl⟩
theorem round14 : k0_pay33 m e b = col (k0_pay32 m e b) ∧ k0_pay34 m e b = col (mask (k0_pay32 m e b)) := ⟨rfl, rfl⟩

end

/-- The sixteen columns the kernel's two lists are put together from. -/
def columns (x : FVec Ideal S512x4096 .f32) : Fin 16 → FVec Ideal S512x1 .f32 :=
  ![k0_pay3 (F := Ideal) x,
    k0_pay6 (F := Ideal) (k0_pay5 (F := Ideal) x),
    k0_pay8 (k0_pay4 (F := Ideal) x) (k0_pay5 (F := Ideal) x),
    k0_pay10 (k0_pay4 (F := Ideal) x) (k0_pay5 (F := Ideal) x),
    k0_pay12 (k0_pay4 (F := Ideal) x) (k0_pay5 (F := Ideal) x),
    k0_pay14 (k0_pay4 (F := Ideal) x) (k0_pay5 (F := Ideal) x),
    k0_pay16 (k0_pay4 (F := Ideal) x) (k0_pay5 (F := Ideal) x),
    k0_pay18 (k0_pay4 (F := Ideal) x) (k0_pay5 (F := Ideal) x),
    k0_pay20 (k0_pay4 (F := Ideal) x) (k0_pay5 (F := Ideal) x),
    k0_pay23 (k0_pay19 (k0_pay4 (F := Ideal) x) (k0_pay5 (F := Ideal) x)) (k0_pay21 (k0_pay4 (F := Ideal) x) (k0_pay5 (F := Ideal) x)) (Scalar.ofBits .f32 0xFF800000#32),
    k0_pay25 (k0_pay19 (k0_pay4 (F := Ideal) x) (k0_pay5 (F := Ideal) x)) (k0_pay21 (k0_pay4 (F := Ideal) x) (k0_pay5 (F := Ideal) x)) (Scalar.ofBits .f32 0xFF800000#32),
    k0_pay27 (k0_pay19 (k0_pay4 (F := Ideal) x) (k0_pay5 (F := Ideal) x)) (k0_pay21 (k0_pay4 (F := Ideal) x) (k0_pay5 (F := Ideal) x)) (Scalar.ofBits .f32 0xFF800000#32),
    k0_pay29 (k0_pay19 (k0_pay4 (F := Ideal) x) (k0_pay5 (F := Ideal) x)) (k0_pay21 (k0_pay4 (F := Ideal) x) (k0_pay5 (F := Ideal) x)) (Scalar.ofBits .f32 0xFF800000#32),
    k0_pay31 (k0_pay19 (k0_pay4 (F := Ideal) x) (k0_pay5 (F := Ideal) x)) (k0_pay21 (k0_pay4 (F := Ideal) x) (k0_pay5 (F := Ideal) x)) (Scalar.ofBits .f32 0xFF800000#32),
    k0_pay33 (k0_pay19 (k0_pay4 (F := Ideal) x) (k0_pay5 (F := Ideal) x)) (k0_pay21 (k0_pay4 (F := Ideal) x) (k0_pay5 (F := Ideal) x)) (Scalar.ofBits .f32 0xFF800000#32),
    k0_pay34 (k0_pay19 (k0_pay4 (F := Ideal) x) (k0_pay5 (F := Ideal) x)) (k0_pay21 (k0_pay4 (F := Ideal) x) (k0_pay5 (F := Ideal) x)) (Scalar.ofBits .f32 0xFF800000#32)]

theorem columns_eq (x : FVec Ideal S512x4096 .f32) : columns x = cand x := by
  unfold columns
  simp only [(round14 _ _ _).1, (round14 _ _ _).2, (round13 _ _ _).1, (round13 _ _ _).2, (round12 _ _ _).1, (round12 _ _ _).2, (round11 _ _ _).1, (round11 _ _ _).2, (round10 _ _ _).1, (round10 _ _ _).2, (round9 _ _ _).1, (round9 _ _ _).2, (round8 _ _).1, (round8 _ _).2, (round7 _ _).1, (round7 _ _).2, (round6 _ _).1, (round6 _ _).2, (round5 _ _).1, (round5 _ _).2, (round4 _ _).1, (round4 _ _).2, (round3 _ _).1, (round3 _ _).2, (round2 _ _).1, (round2 _ _).2, (round1 _).1, (round1 _).2, (round0 _).1, (round0 _).2]
  exact iterate_list col mask (k0_pay2 x)

theorem descOf_eq (x : FVec Ideal S512x4096 .f32) : descOf (F := Ideal) x = sideBySide (cand x) := by
  rw [← columns_eq]
  exact (shapeCast_id _ _).trans (sideBySide_list _ _ _ _ _ _ _ _ _ _ _ _ _ _ _ _)

theorem ascOf_eq (x : FVec Ideal S512x4096 .f32) : ascOf (F := Ideal) x = sideBySide fun k => cand x k.rev := by
  rw [← columns_eq]
  exact ((shapeCast_id _ _).trans (sideBySide_list _ _ _ _ _ _ _ _ _ _ _ _ _ _ _ _)).trans (congrArg sideBySide (rev_list _ _ _ _ _ _ _ _ _ _ _ _ _ _ _ _))

theorem descOf_apply (x : FVec Ideal S512x4096 .f32) (i : Fin 512) (j : Fin 16) :
    descOf (F := Ideal) x (ix2 i j) = rnd j.val fun l => k0_pay2 (F := Ideal) x (ix2 i l) := by rw [descOf_eq, sideBySide_apply, cand_apply]

theorem ascOf_apply (x : FVec Ideal S512x4096 .f32) (i : Fin 512) (j : Fin 16) :
    ascOf (F := Ideal) x (ix2 i j) = rnd j.rev.val fun l => k0_pay2 (F := Ideal) x (ix2 i l) := by rw [ascOf_eq, sideBySide_apply, cand_apply]

/-! ## Rounds down the lanes -/

/-- The entries of one row of the block in one lane. -/
def lane (x : FVec Ideal S512x4096 .f32) (i : Fin 512) (l : Fin 128) (r : Fin 32) : EReal := x (ix2 i ⟨r.val * 128 + l.val, by omega⟩)

theorem lanes_apply (x : FVec Ideal S512x4096 .f32) (i : Fin 512) (q : Fin 3 × Fin 128) :
    k0_pay2 (F := Ideal) x (ix2 i ⟨q.2.val + 128 * q.1.val, by omega⟩) = rnd q.1.val (lane x i q.2) := by
  obtain ⟨k, l⟩ := q
  pointwise [k0_pay2]
  simp only [fold_max_eq_sup, minus_infinity]
  fin_cases k
  · simp
    rfl
  · simp
    rfl
  · simp
    rfl

end Cert.TopK

end
-- ==== Proof.Sorted.lean ====
/-
# Rows sorted by their negated entries

Sorting the negated row ascending is sorting the row descending: the positions come from a permutation that makes the row
antitone. Both the reference and the precondition order a row this way.
-/
module

public import proofs.«01_k».proof.Proof.Top
public import Idealize.ShloMosaic.Lib.SortFacts
public import Idealize.ShloMosaic.Lib.Pointwise

@[expose] public section

namespace Cert.TopK

open Idealize.ShloMosaic

/-- The permutation a sort reads its positions through. -/
noncomputable def places {n : ℕ} (before : Fin n → Fin n → Bool) : Fin n ≃ Fin n :=
  Equiv.ofBijective (sortedFrom before) ⟨sortedFrom_injective before, sortedFrom_surjective before⟩

theorem places_apply {n : ℕ} (before : Fin n → Fin n → Bool) (k : Fin n) : places before k = sortedFrom before k := rfl

theorem antitone_places {n : ℕ} (x : Fin n → EReal) (before : Fin n → Fin n → Bool) (hb : ∀ k l, before k l = true ↔ -x k < -x l) :
    Antitone fun k => x (places before k) := by
  intro i j hij
  rcases hij.eq_or_lt with rfl | hlt
  · exact le_rfl
  have h := sortedFrom_noInversion before before (fun a b hab => by
      rw [Bool.eq_false_iff, Ne, hb]
      exact not_lt_of_gt ((hb a b).mp hab))
    (fun _ _ h => h)
    (fun a b c hab hbc => by
      rw [Bool.eq_false_iff, Ne, hb] at hab hbc ⊢
      exact not_lt.mpr ((not_lt.mp hbc).trans (not_lt.mp hab))) i j hlt
  rw [Bool.eq_false_iff, Ne, hb, EReal.neg_lt_neg_iff, not_lt] at h
  exact h

/-- The sorts' comparator replaces each zero by zero and each undefined number by one, which at the exact reals changes
nothing. -/
theorem canonical (x : EReal) :
    Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
  pointwise
  by_cases h : x = 0 <;> simp [h]

theorem along_cols {m n : ℕ} (i : Fin m) (j : Fin n) :
    (fun k : Fin n => (ix2 i j : (⟨2, ![m, n]⟩ : Shape).Idx).along (1 : Fin 2) k) = fun k => ix2 i k := by
  funext k a
  fin_cases a <;> rfl

/-- A sort along the columns, read at an entry. -/
theorem sort_row {m n : ℕ} {α : Type} (cmp : α → α → BitVec 1) (v : (⟨2, ![m, n]⟩ : Shape).Idx → α) (i : Fin m) (k : Fin n) :
    Host.sort ⟨2, ![m, n]⟩ 1 cmp v (ix2 i k) = v (ix2 i (sortedFrom (fun a b => cmp (v (ix2 i a)) (v (ix2 i b)) == 1#1) k)) := by
  unfold Host.sort
  rw [dif_pos (show 1 < (⟨2, ![m, n]⟩ : Shape).rank from Nat.one_lt_two)]
  exact congrArg (fun g : Fin n → (⟨2, ![m, n]⟩ : Shape).Idx => v (g (sortedFrom (fun a b => cmp (v (g a)) (v (g b)) == 1#1) k)))
    (along_cols i k)

/-- The second array of a sort of two along the columns, read at an entry. -/
theorem sort2_row {m n : ℕ} {α β : Type} (cmp : α × β → α × β → BitVec 1) (v : (⟨2, ![m, n]⟩ : Shape).Idx → α)
    (w : (⟨2, ![m, n]⟩ : Shape).Idx → β) (i : Fin m) (k : Fin n) :
    (Host.sort2 ⟨2, ![m, n]⟩ 1 cmp v w).2 (ix2 i k)
      = w (ix2 i (sortedFrom (fun a b => cmp (v (ix2 i a), w (ix2 i a)) (v (ix2 i b), w (ix2 i b)) == 1#1) k)) := by
  unfold Host.sort2
  rw [dif_pos (show 1 < (⟨2, ![m, n]⟩ : Shape).rank from Nat.one_lt_two)]
  exact congrArg (fun g : Fin n → (⟨2, ![m, n]⟩ : Shape).Idx =>
    w (g (sortedFrom (fun a b => cmp (v (g a), w (g a)) (v (g b), w (g b)) == 1#1) k))) (along_cols i k)

end Cert.TopK
-- ==== Proof.Spread.lean ====
/-
# What the precondition says of a block

`blockTop x i`: the 16 largest entries of row `i` of the block, in descending order, as the precondition finds them by sorting.
The precondition gives the two conditions of `rounds_lanes`: no two neighbours in this list are equal unless
they are minus infinity, and in each lane at most three finite entries are at least the last of the list.
-/
module

public import proofs.«01_k».proof.Proof.Sorted
public import proofs.«01_k».proof.Proof.Gen.Pre_spread_KernelIdeal
public import Idealize.ShloMosaic.Lib.StableHlo.Predicate

@[expose] public section

noncomputable section

namespace Cert.TopK

open Idealize.ShloMosaic Cert.Pre_spread_KernelIdeal

/-- The permutation that sorts a row of a block. -/
def blockPlaces (x : FVec Ideal S512x4096 .f32) (i : Fin 512) : Fin 4096 ≃ Fin 4096 :=
  places fun k l => comparator_f32_d1 (Host.negf x (ix2 i k)) (Host.negf x (ix2 i l)) == 1#1

/-- The first 16 entries of a row sorted so. -/
def blockTop (x : FVec Ideal S512x4096 .f32) (i : Fin 512) (j : Fin 16) : EReal := x (ix2 i (blockPlaces x i (j.castLE (by norm_num))))

/-- The comparator orders by size. -/
theorem block_before (a b : EReal) : (comparator_f32_d1 (F := Ideal) a b == 1#1) = true ↔ a < b := by
  unfold comparator_f32_d1
  dsimp only
  rw [beq_iff_eq, canonical, canonical]
  exact Ideal.cmp_olt_eq_one a b

theorem blockTop_last (x : FVec Ideal S512x4096 .f32) (i : Fin 512) : blockTop x i 15 = x (ix2 i (blockPlaces x i 15)) :=
  congrArg (fun k => x (ix2 i (blockPlaces x i k))) (Fin.ext rfl)

theorem isTop_blockTop (x : FVec Ideal S512x4096 .f32) (i : Fin 512) : IsTop (fun k => x (ix2 i k)) (blockTop x i) :=
  isTop_of_sorted (by norm_num) (fun k => x (ix2 i k)) (blockPlaces x i)
    (antitone_places (fun k => x (ix2 i k)) _ fun _ _ => block_before _ _)

/-- What the precondition's sort of the negated block holds. -/
theorem block_sort (x : FVec Ideal S512x4096 .f32) (i : Fin 512) (k : Fin 4096) :
    Host.sort S512x4096 1 comparator_f32_d1 (Host.negf x) (ix2 i k) = -x (ix2 i (blockPlaces x i k)) := by
  rw [sort_row]
  exact congrArg (fun l => -x (ix2 i l)) (places_apply _ k).symm

/-- A conjunction over everything holds of each. -/
theorem fold_andi {ι : Type} (S : Finset ι) (f : ι → BitVec 1) (h : S.fold IntOp.andi 1#1 f = 1#1) : ∀ a ∈ S, f a = 1#1 := by
  classical
  have hand : ∀ u v : BitVec 1, IntOp.andi u v = 1#1 → u = 1#1 ∧ v = 1#1 := by decide
  induction S using Finset.induction_on with
  | empty => simp
  | insert a S ha ih =>
    rw [Finset.fold_insert ha] at h
    obtain ⟨h1, h2⟩ := hand _ _ h
    intro b hb
    rcases Finset.mem_insert.mp hb with rfl | hb
    · exact h1
    · exact ih h2 b hb

/-- A sum of bits over fewer than 2³² of them counts the ones. -/
theorem fold_count {n : ℕ} (hn : n < 2 ^ 32) (p : Fin n → Prop) [DecidablePred p] :
    (Finset.univ.fold IntOp.addi 0#32 fun r => BitVec.setWidth 32 (BitVec.ofBool (decide (p r)))).toNat = (Finset.univ.filter p).card := by
  have hv : ∀ r, (BitVec.setWidth 32 (BitVec.ofBool (decide (p r)))).toNat = if p r then 1 else 0 := fun r => by
    by_cases h : p r <;> simp [h]
  have hs : ∑ r, (BitVec.setWidth 32 (BitVec.ofBool (decide (p r)))).toNat = (Finset.univ.filter p).card := by
    rw [Finset.card_filter]
    exact Finset.sum_congr rfl fun r _ => hv r
  rw [StableHlo.Predicate.toNat_fold_addi _ _ (by rw [hs]; exact lt_of_le_of_lt (Finset.card_le_univ _) (by simpa using hn)), hs]

attribute [local instance] Cert.Pre_spread_KernelIdeal.Gen.facts

/-- The precondition, read at one row: no tie among its 16 largest entries, and no more than three of the finite ones in a lane. -/
theorem spread_block (x : FVec Ideal S512x4096 .f32) (h : fn (F := Ideal) x = fun _ => 1#1) (i : Fin 512) :
    (∀ j k : Fin 16, j.val + 1 = k.val → blockTop x i k < blockTop x i j ∨ blockTop x i j = ⊥)
      ∧ ∀ l : Fin 128, (Finset.univ.filter fun r : Fin 32 => blockTop x i 15 ≤ x (ix2 i ⟨r.val * 128 + l.val, by omega⟩)
          ∧ ⊥ < x (ix2 i ⟨r.val * 128 + l.val, by omega⟩)).card ≤ 3 := by
  have h0 := congrFun h (fun a => a.elim0)
  dsimp only [fn, fn_part1] at h0
  pointwise at h0
  have hbot : Ideal.ofBits .f32 4286578688#32 = ⊥ := by simp [Ideal.ofBits, Ideal.ieee]
  have hand : ∀ u v : BitVec 1, IntOp.andi u v = 1#1 → u = 1#1 ∧ v = 1#1 := by decide
  have hor : ∀ u v : Prop, [Decidable u] → [Decidable v] → (IntOp.ori (BitVec.ofBool (decide u)) (BitVec.ofBool (decide v)) = 1#1 ↔ u ∨ v) := fun u v _ _ => by
    by_cases hu : u <;> by_cases hv : v <;> simp [hu, hv, IntOp.ori]
  have hbits : ∀ u v : Prop, [Decidable u] → [Decidable v] →
      IntOp.andi (BitVec.ofBool (decide u)) (BitVec.ofBool (decide v)) = BitVec.ofBool (decide (u ∧ v)) := fun u v _ _ => by
    by_cases hu : u <;> by_cases hv : v <;> simp [hu, hv, IntOp.andi]
  simp only [block_sort, neg_neg, hbot, hbits] at h0
  obtain ⟨h1, h2⟩ := hand _ _ h0
  constructor
  · intro j k hjk
    have hj : j.val < 15 := by omega
    have h3 := (hor _ _).mp (fold_andi _ _ h1 (i, ⟨j.val, hj⟩) (Finset.mem_univ _))
    have hk : k = ⟨1 + j.val, by omega⟩ := Fin.ext ((Nat.add_comm _ _).trans hjk).symm
    rw [hk]
    exact h3
  · intro l
    have h3 := fold_andi _ _ h2 (i, l) (Finset.mem_univ _)
    dsimp only at h3
    rw [IntOp.cmpi] at h3
    have hc := fold_count (n := 32) (by decide) fun r : Fin 32 => blockTop x i 15 ≤ x (ix2 i ⟨r.val * 128 + l.val, by omega⟩)
          ∧ ⊥ < x (ix2 i ⟨r.val * 128 + l.val, by omega⟩)
    have hle : (Finset.univ.filter fun r : Fin 32 => blockTop x i 15 ≤ x (ix2 i ⟨r.val * 128 + l.val, by omega⟩)
          ∧ ⊥ < x (ix2 i ⟨r.val * 128 + l.val, by omega⟩)).card ≤ 32 := (Finset.card_le_univ _).trans (by simp)
    rw [blockTop_last] at hc hle ⊢
    rw [← hc] at hle ⊢
    exact (StableHlo.Predicate.sle_bool_iff_toNat (by omega) (by decide)).mp h3

end Cert.TopK

end
-- ==== Proof.Block.lean ====
/-
# A device's two lists hold the 16 largest entries of its block

Where the precondition holds of the block.
-/
module

public import proofs.«01_k».proof.Proof.BlockRead
public import proofs.«01_k».proof.Proof.Spread

@[expose] public section

noncomputable section

namespace Cert.TopK

open Cert.KernelIdeal Cert.KernelIdeal.Gen

open Idealize.ShloMosaic

/-- The rounds over the lanes' results of a row find the row's 16 largest entries. -/
theorem rounds_blockTop (x : FVec Ideal S512x4096 .f32)
    (h : @Cert.Pre_spread_KernelIdeal.fn Cert.Pre_spread_KernelIdeal.Gen.facts Ideal _ x = fun _ => 1#1) (i : Fin 512) (j : Fin 16) :
    (rnd j.val fun l => k0_pay2 (F := Ideal) x (ix2 i l)) = blockTop x i j := by
  obtain ⟨hdist, hlane⟩ := spread_block x h i
  have hs : IsTop (fun p : Fin 32 × Fin 128 => lane x i p.2 p.1) (blockTop x i) := by
    have ht := (isTop_blockTop x i).reindex (finProdFinEquiv : Fin 32 × Fin 128 ≃ Fin 4096)
    have he : (fun p : Fin 32 × Fin 128 => x (ix2 i ((finProdFinEquiv : Fin 32 × Fin 128 ≃ Fin 4096) p))) = fun p => lane x i p.2 p.1 :=
      funext fun p => congrArg (fun k => x (ix2 i k)) (Fin.ext (by rw [finProdFinEquiv_apply_val, Nat.mul_comm, Nat.add_comm]))
    rwa [he] at ht
  have hmem : ∀ k, ∃ r l, lane x i l r = blockTop x i k := fun k => by
    refine ⟨((finProdFinEquiv : Fin 32 × Fin 128 ≃ Fin 4096).symm (blockPlaces x i (k.castLE (by norm_num)))).1,
      ((finProdFinEquiv : Fin 32 × Fin 128 ≃ Fin 4096).symm (blockPlaces x i (k.castLE (by norm_num)))).2,
      congrArg (fun k => x (ix2 i k)) (Fin.ext ?_)⟩
    have := congrArg Fin.val ((finProdFinEquiv : Fin 32 × Fin 128 ≃ Fin 4096).apply_symm_apply (blockPlaces x i (k.castLE (by norm_num))))
    rw [finProdFinEquiv_apply_val] at this
    refine Eq.trans ?_ this
    dsimp only
    omega
  rw [← rounds_lanes (fun r l => lane x i l r) (blockTop x i) hs hmem hdist hlane j,
    ← rnd_equiv (finProdFinEquiv : Fin 3 × Fin 128 ≃ Fin 384)]
  refine congrArg (rnd j.val) (funext fun q => ?_)
  rw [← lanes_apply x i q]
  exact congrArg (fun k => k0_pay2 (F := Ideal) x (ix2 i k)) (Fin.ext (finProdFinEquiv_apply_val q))

theorem descOf_blockTop (x : FVec Ideal S512x4096 .f32)
    (h : @Cert.Pre_spread_KernelIdeal.fn Cert.Pre_spread_KernelIdeal.Gen.facts Ideal _ x = fun _ => 1#1) (i : Fin 512) (j : Fin 16) :
    descOf (F := Ideal) x (ix2 i j) = blockTop x i j := by rw [descOf_apply, rounds_blockTop x h]

theorem ascOf_blockTop (x : FVec Ideal S512x4096 .f32)
    (h : @Cert.Pre_spread_KernelIdeal.fn Cert.Pre_spread_KernelIdeal.Gen.facts Ideal _ x = fun _ => 1#1) (i : Fin 512) (j : Fin 16) :
    ascOf (F := Ideal) x (ix2 i j) = blockTop x i j.rev := by rw [ascOf_apply, rounds_blockTop x h]

end Cert.TopK

end
-- ==== Proof.Reference.lean ====
/-
# The reference's result: the 16 largest entries of a row of the whole array

The reference sorts each row's positions by the negated entries, keeps the first 16 and reads the row there. The positions lie
between 0 and 8191, so the corrections and checks its reading makes for other positions change nothing.
-/
module

public import proofs.«01_k».proof.Proof.Sorted
public import proofs.«01_k».proof.Proof.Gen.ReferenceIdeal.Read
public import Idealize.ShloMosaic.Lib.StableHlo.Predicate

@[expose] public section

noncomputable section

namespace Cert.TopK

open Idealize.ShloMosaic Cert.ReferenceIdeal Cert.ReferenceIdeal.Gen Cert.ReferenceIdeal.Read

/-- The permutation that sorts a row of the whole array. -/
def rowPlaces (x : FVec Ideal S512x8192 .f32) (i : Fin 512) : Fin 8192 ≃ Fin 8192 :=
  places fun k l => comparator_f32_i32_d1 (Host.negf x (ix2 i k), iotaInDim S512x8192 32 1 (ix2 i k))
    (Host.negf x (ix2 i l), iotaInDim S512x8192 32 1 (ix2 i l)) == 1#1

/-- The first 16 entries of a row sorted so. -/
def rowTop (x : FVec Ideal S512x8192 .f32) (i : Fin 512) (j : Fin 16) : EReal := x (ix2 i (rowPlaces x i (j.castLE (by norm_num))))

/-- The comparator, which also receives the positions, compares the first entries alone. -/
theorem row_before (a b : EReal) (p q : BitVec 32) : (comparator_f32_i32_d1 (F := Ideal) (a, p) (b, q) == 1#1) = true ↔ a < b := by
  unfold comparator_f32_i32_d1
  dsimp only
  rw [beq_iff_eq, canonical, canonical]
  exact Ideal.cmp_olt_eq_one a b

theorem isTop_rowTop (x : FVec Ideal S512x8192 .f32) (i : Fin 512) : IsTop (fun k => x (ix2 i k)) (rowTop x i) :=
  isTop_of_sorted (by norm_num) (fun k => x (ix2 i k)) (rowPlaces x i)
    (antitone_places (fun k => x (ix2 i k)) _ fun _ _ => row_before _ _ _ _)

/-- The positions the reference sorts along. -/
theorem position (x : FVec Ideal S512x8192 .f32) (i : Fin 512) (k : Fin 8192) :
    val_main_v1 (F := Ideal) x (ix2 i k) = BitVec.ofNat 32 (rowPlaces x i k).val := by
  unfold val_main_v1
  rw [sort2_row]
  exact congrArg (fun l : Fin 8192 => BitVec.ofNat 32 l.val) (places_apply _ k).symm

/-- The gather, along each row at the clamped start position. -/
theorem gather_row (x : FVec Ideal S512x8192 .f32) (idx : IVec S512x16x1 32) (i : Fin 512) (j : Fin 16) :
    Host.gather gather_S512x8192_S512x16x1_S512x16_n_1_0_0_1_2_11 x idx (ix2 i j)
      = x (ix2 i ⟨min (idx (ix3 i j 0)).toInt.toNat 8191, by omega⟩) := by
  unfold Host.gather
  congr 1
  funext a
  fin_cases a
  · apply Fin.ext
    show 0 + i.val + 0 = i.val
    omega
  · apply Fin.ext
    refine congrArg (fun k => min (idx k).toInt.toNat 8191) (funext fun b => ?_)
    fin_cases b <;> rfl

/-- A column's number is not negative and at most 8191. -/
theorem row_reads (k : ℕ) (hk : k < 8192) : IntOp.cmpi .slt (BitVec.ofNat 32 k) 0#32 = 0#1 ∧ IntOp.cmpi .sge (BitVec.ofNat 32 k) 0#32 = 1#1
    ∧ IntOp.cmpi .sle (BitVec.ofNat 32 k) 8191#32 = 1#1 := by
  have h1 := StableHlo.Predicate.slt_ofNat_iff k 0 (by omega) (by norm_num)
  have h2 := StableHlo.Predicate.sle_ofNat_iff 0 k (by norm_num) (by omega)
  have h3 := StableHlo.Predicate.sle_ofNat_iff k 8191 (by omega) (by norm_num)
  refine ⟨?_, h2.mpr (Nat.zero_le k), h3.mpr (by omega)⟩
  have hz : ∀ b : BitVec 1, b ≠ 1#1 → b = 0#1 := by decide
  exact hz _ fun h => Nat.not_lt_zero k (h1.mp h)

/-- Clamping to 8191 changes no column's number. -/
theorem clamped {v : BitVec 32} {k : ℕ} (hv : v = BitVec.ofNat 32 k) (hk : k < 8192) : min v.toInt.toNat 8191 = k := by
  rw [hv, StableHlo.Predicate.toInt_ofNat_small k (by omega), Int.toNat_natCast]
  omega

/-- Where the gather reads: the sorted positions, none of which is counted from the row's end. -/
theorem start (x : FVec Ideal S512x8192 .f32) (i : Fin 512) (j : Fin 16) :
    val_main_call1_v5 (F := Ideal) x (ix3 i j 0) = BitVec.ofNat 32 (rowPlaces x i (j.castLE (by norm_num))).val := by
  obtain ⟨h, _, _⟩ := row_reads _ (rowPlaces x i (j.castLE (by norm_num))).isLt
  pointwise [val_main_call1_v5, val_main_call1_v4, val_main_call1_v3, val_main_call1_v2, val_main_call1_v1, val_main_call1_v0, val_main_call1_c,
    val_main_call1_c_0, val_main_v2]
  have hp := position x i (j.castLE (by norm_num))
  rw [show (⟨j.val, _⟩ : Fin 8192) = j.castLE (by norm_num) from rfl, hp, h]
  rfl

/-- No position is out of range, so every entry is the one the gather reads. -/
theorem reference_rowTop (x : FVec Ideal S512x8192 .f32) (i : Fin 512) (j : Fin 16) : val_main_v3 (F := Ideal) x (ix2 i j) = rowTop x i j := by
  obtain ⟨_, h1, h2⟩ := row_reads _ (rowPlaces x i (j.castLE (by norm_num))).isLt
  have hs := start x i j
  have hall : val_main_call1_v12 (F := Ideal) x (ix2 i j) = 1#1 := by
    pointwise [val_main_call1_v12, val_main_call1_v11, val_main_call1_v10, val_main_call1_v7, val_main_call1_v9, val_main_call1_v8,
      val_main_call1_c_1, val_main_call1_v6, val_main_call1_c_2, val_main_call1_c_3]
    have hone : ∀ f : Fin 1 → BitVec 1, f 0 = 1#1 → Finset.fold IntOp.andi 1#1 f Finset.univ = 1#1 := by
      intro f hf
      rw [Fin.univ_succ]
      simp [hf, IntOp.andi]
    apply hone
    rw [hs, h1, h2]
    rfl
  rw [val_main_v3_apply, hall]
  exact (gather_row x _ i j).trans (congrArg (fun k => x (ix2 i k))
    (Fin.ext (clamped hs (rowPlaces x i (j.castLE (by norm_num))).isLt)))

end Cert.TopK

end
-- ==== Proof.Equation.lean ====
/-
# The two programs compute the same array

A device's block and its peer's are the two halves of the whole array's columns, in one order or the other. A row's 16 largest
entries do not depend on the order, and both programs compute them.
-/
module

public import proofs.«01_k».proof.Defs
public import proofs.«01_k».proof.Proof.Launch
public import proofs.«01_k».proof.Proof.Merge
public import proofs.«01_k».proof.Proof.MergeRead
public import proofs.«01_k».proof.Proof.Block
public import proofs.«01_k».proof.Proof.Reference
public import proofs.«01_k».proof.Proof.Gen.ReferenceIdeal.Run

@[expose] public section

noncomputable section

namespace Cert.TopK

open Idealize.ShloMosaic Idealize.SL.Sem

/-! ## Two halves of a row -/

/-- The columns as the first half and the second. -/
def halves : Fin 4096 ⊕ Fin 4096 ≃ Fin 8192 := finSumFinEquiv.trans (finCongr (by norm_num))

theorem halves_inl (k : Fin 4096) : (halves (Sum.inl k)).val = k.val := rfl
theorem halves_inr (k : Fin 4096) : (halves (Sum.inr k)).val = 4096 + k.val := rfl

/-- The merge of the largest entries of half `b` of a row and of its other half, the latter's ascending. -/
theorem isTop_halves {x : Fin 8192 → EReal} {y z : Fin 4096 → EReal} {s t : Fin 16 → EReal} (b : ℕ) (hb : b < 2)
    (hy : ∀ k q, q.val = b * 4096 + k.val → y k = x q) (hz : ∀ k q, q.val = (1 - b) * 4096 + k.val → z k = x q)
    (hs : IsTop y s) (ht : IsTop z t) : IsTop x (merge16 s fun j => t j.rev) := by
  have hm : IsTop (Sum.elim y z) (merge16 s fun j => t j.rev) := hs.merge (by simpa only [Fin.rev_rev] using ht)
  rcases (by omega : b = 0 ∨ b = 1) with rfl | rfl
  · have he : Sum.elim y z = fun k => x (halves k) := by
      funext k
      rcases k with k | k
      · exact hy k _ (by rw [halves_inl]; omega)
      · exact hz k _ (by rw [halves_inr])
    rw [he] at hm
    exact hm.equiv halves
  · have he : Sum.elim y z = fun k => x (((Equiv.sumComm _ _).trans halves) k) := by
      funext k
      rcases k with k | k
      · exact hy k _ (by show (halves (Sum.inr k)).val = _; rw [halves_inr])
      · exact hz k _ (by show (halves (Sum.inl k)).val = _; rw [halves_inl]; omega)
    rw [he] at hm
    exact hm.equiv ((Equiv.sumComm _ _).trans halves)

/-! ## The blocks -/

/-- Device `c`'s block of the whole array. -/
abbrev blockOf (X : FVec Ideal ⟨2, ![512, 8192]⟩ .f32) (c : Dev Cert.KernelIdeal.nD) : FVec Ideal ⟨2, ![512, 4096]⟩ .f32 :=
  Layout.blockN ⟨2, ![512, 4096]⟩ ⟨2, ![512, 8192]⟩ (Layout.meshBlock [2, 2] ![[], [0]] c) X

/-- It is the block of columns its first mesh coordinate names. -/
theorem block_column (c : Dev Cert.KernelIdeal.nD) : (Layout.meshBlock [2, 2] (![[], [0]] : Fin 2 → List ℕ) c (by decide) 1).val = c.val / 2 := by
  revert c; decide

theorem blockOf_apply (X : FVec Ideal ⟨2, ![512, 8192]⟩ .f32) (c : Dev Cert.KernelIdeal.nD) (i : Fin 512) (k : Fin 4096) (q : Fin 8192)
    (hq : q.val = c.val / 2 * 4096 + k.val) : blockOf X c (ix2 i k) = X (ix2 i q) := by
  refine congrArg X (funext fun a => ?_)
  fin_cases a
  · apply Fin.ext
    show 0 * 512 + i.val = i.val
    omega
  · apply Fin.ext
    refine Eq.trans ?_ hq.symm
    exact congrArg (fun b => b * 4096 + k.val) (block_column c)

/-- The peer holds the other block. -/
theorem peer_column (c : Dev Cert.KernelIdeal.nD) : (peer c).val / 2 = 1 - c.val / 2 := by revert c; decide

/-- What a device computes from its block and its peer's is the reference's result. -/
theorem merge_eq (X : FVec Ideal ⟨2, ![512, 8192]⟩ .f32) (c : Dev Cert.KernelIdeal.nD) {x y : FVec Ideal Cert.KernelIdeal.S512x4096 .f32}
    (hx : x = blockOf X c) (hy : y = blockOf X (peer c))
    (px : @Cert.Pre_spread_KernelIdeal.fn Cert.Pre_spread_KernelIdeal.Gen.facts Ideal _ x = fun _ => 1#1)
    (py : @Cert.Pre_spread_KernelIdeal.fn Cert.Pre_spread_KernelIdeal.Gen.facts Ideal _ y = fun _ => 1#1) :
    mergeOf (F := Ideal) (descOf x) (ascOf y) = Cert.ReferenceIdeal.Read.val_main_v3 (F := Ideal) X := by
  funext p
  obtain ⟨i, j, rfl⟩ : ∃ i j, p = ix2 i j := ⟨p 0, p 1, by funext a; fin_cases a <;> rfl⟩
  rw [reference_rowTop, mergeOf_apply]
  have hs : (fun k => descOf (F := Ideal) x (ix2 i k)) = blockTop x i := funext fun k => descOf_blockTop x px i k
  have ht : (fun k => ascOf (F := Ideal) y (ix2 i k)) = fun k : Fin 16 => blockTop y i k.rev := funext fun k => ascOf_blockTop y py i k
  rw [hs, ht]
  refine congrFun (IsTop.unique (isTop_halves (x := fun k => X (ix2 i k)) (c.val / 2) ?_ (fun k q hq => ?_) (fun k q hq => ?_)
    (isTop_blockTop x i) (isTop_blockTop y i)) (isTop_rowTop X i)) j
  · exact Nat.div_lt_of_lt_mul c.isLt
  · rw [hx]
    exact blockOf_apply X c i k q hq
  · rw [hy]
    exact blockOf_apply X (peer c) i k q (by rw [peer_column]; exact hq)

/-! ## The runs -/

/-- On blocks of one array of which the precondition holds, every device ends with the array the reference ends with. -/
theorem same_result : Cert.algebraic_KernelIdeal_ReferenceIdeal_pre_spread_KernelIdeal (hKernelIdeal := Cert.KernelIdeal.Gen.facts)
    (hReferenceIdeal := Cert.ReferenceIdeal.Gen.facts) (hPre_spread_KernelIdeal := Cert.Pre_spread_KernelIdeal.Gen.facts) :=
  fun m g m' g' hpre hm =>
    ⟨Cert.ReferenceIdeal.Read.val_main_v3 (F := Ideal)
        (m' (((0 : Dev Cert.ReferenceIdeal.nD).tc : Thread Cert.ReferenceIdeal.nD Cert.ReferenceIdeal.τ).loc Cert.ReferenceIdeal.main_arg0)),
      (θ_run Cert.KernelIdeal.defs _ _).mono
        (fun r h c => ⟨(h.1 c).1.trans (merge_eq _ c (hm c) (hm (peer c)) (hpre c) (hpre (peer c))), (h.1 c).2⟩) (run_main (F := Ideal) m g),
      (θ_run Cert.ReferenceIdeal.defs _ _).mono
        (fun r h => ⟨(h 0).1.trans (Cert.ReferenceIdeal.Read.val_main_v3_eq _), (h 0).2⟩) (Cert.ReferenceIdeal.Value.run (F := Ideal) m' g')⟩

end Cert.TopK

end
-- ==== Proof.lean ====
/-
The proof of `Cert.Claim`: the witnesses of the programs' stated facts, then each claim by the theorem of its module.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_spread_KernelIdeal
public import proofs.«01_k».proof.Proof.Gen.Pre_spread_ReferenceIdeal
public import proofs.«01_k».proof.Proof.Frames
public import proofs.«01_k».proof.Proof.Equation

@[expose] public section

noncomputable section

namespace Cert.Proof

open Cert.TopK

theorem claim : Cert.Claim := ⟨Cert.Kernel.Gen.facts, Cert.KernelIdeal.Gen.facts, Cert.ReferenceIdeal.Gen.facts,
  Cert.Pre_spread_KernelIdeal.Gen.facts, Cert.Pre_spread_ReferenceIdeal.Gen.facts,
  frame_kernel, frame_ideal, frame_ideal_pre, frame_reference, frame_reference_pre, trivial, same_result⟩

end Cert.Proof

end
